-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x4238AA3B#32 ((32 * (Real.log 2)⁻¹ : ℝ) : EReal)
  ∧ IdealRules.named_const.Statement Cert.KernelIdeal.κ "half" .f32 0x41B8AA3B#32 ((16 * (Real.log 2)⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S1x2048x768 : Shape := ⟨3, ![1, 2048, 768]⟩
abbrev S768x768 : Shape := ⟨2, ![768, 768]⟩
abbrev S4x64 : Shape := ⟨2, ![4, 64]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg6 : FVec F S4x64 .f32) (main_v14 : IVec S_ 1) (main_v15 : FVec F S4x64 .f32) (main_cst_5 : FVec F S_ .f32) : IVec S_ 1 :=
  let main_v16 : FVec F S4x64 .f32 := broadcastInDim S4x64 ![] bcast_S_S4x64 main_cst_5
  let main_v17 : IVec S4x64 1 := cmpf .olt main_v15 main_v16
  let main_c_6 : IVec S_ 1 := constantI S_ 1 1#1
  let main_v18 : IVec S_ 1 := (fun x v => Host.reduce IntOp.andi x v reducesTo_S4x64_S_d0_1 h_S_) main_v17 main_c_6
  let main_v19 : IVec S_ 1 := andi main_v14 main_v18
  let main_v20 : FVec F S4x64 .f32 := Host.absf main_arg6
  let main_cst_7 : FVec F S_ .f32 := constant S_ .f32 0x7F800000#32
  let main_v21 : FVec F S4x64 .f32 := broadcastInDim S4x64 ![] bcast_S_S4x64 main_cst_7
  let main_v22 : IVec S4x64 1 := cmpf .olt main_v20 main_v21
  let main_c_8 : IVec S_ 1 := constantI S_ 1 1#1
  let main_v23 : IVec S_ 1 := (fun x v => Host.reduce IntOp.andi x v reducesTo_S4x64_S_d0_1 h_S_) main_v22 main_c_8
  let main_v24 : IVec S_ 1 := andi main_v19 main_v23
  main_v24

def fn {F : FTy → Type} [FloatOps F] (main_arg0 : FVec F S1x2048x768 .f32) (main_arg1 : FVec F S768x768 .f32) (main_arg2 : FVec F S768x768 .f32) (main_arg3 : FVec F S768x768 .f32) (main_arg4 : FVec F S768x768 .f32) (main_arg5 : FVec F S4x64 .f32) (main_arg6 : FVec F S4x64 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_c_0 : IVec S_ 1 := constantI S_ 1 1#1
  let main_v4 : IVec S_ 1 := andi main_c_0 main_v3
  let main_v5 : FVec F S768x768 .f32 := Host.absf main_arg1
  let main_cst_1 : FVec F S_ .f32 := constant S_ .f32 0x7F800000#32
  let main_v6 : FVec F S768x768 .f32 := broadcastInDim S768x768 ![] bcast_S_S768x768 main_cst_1
  let main_v7 : IVec S768x768 1 := cmpf .olt main_v5 main_v6
  let main_c_2 : IVec S_ 1 := constantI S_ 1 1#1
  let main_v8 : IVec S_ 1 := (fun x v => Host.reduce IntOp.andi x v reducesTo_S768x768_S_d0_1 h_S_) main_v7 main_c_2
  let main_v9 : IVec S_ 1 := andi main_v4 main_v8
  let main_v10 : FVec F S768x768 .f32 := Host.absf main_arg2
  let main_cst_3 : FVec F S_ .f32 := constant S_ .f32 0x7F800000#32
  let main_v11 : FVec F S768x768 .f32 := broadcastInDim S768x768 ![] bcast_S_S768x768 main_cst_3
  let main_v12 : IVec S768x768 1 := cmpf .olt main_v10 main_v11
  let main_c_4 : IVec S_ 1 := constantI S_ 1 1#1
  let main_v13 : IVec S_ 1 := (fun x v => Host.reduce IntOp.andi x v reducesTo_S768x768_S_d0_1 h_S_) main_v12 main_c_4
  let main_v14 : IVec S_ 1 := andi main_v9 main_v13
  let main_v15 : FVec F S4x64 .f32 := Host.absf main_arg5
  let main_cst_5 : FVec F S_ .f32 := constant S_ .f32 0x7F800000#32
  fn_part1 (F := F) main_arg6 main_v14 main_v15 main_cst_5
-- ==== Kernel.lean ====
abbrev S1x2048x768 : Shape := ⟨3, ![1, 2048, 768]⟩
abbrev S768x768 : Shape := ⟨2, ![768, 768]⟩
abbrev S4x64 : Shape := ⟨2, ![4, 64]⟩
abbrev S2048x768 : Shape := ⟨2, ![2048, 768]⟩
abbrev S768x12x64 : Shape := ⟨3, ![768, 12, 64]⟩
abbrev S768x12x4 : Shape := ⟨3, ![768, 12, 4]⟩
abbrev S768x48 : Shape := ⟨2, ![768, 48]⟩
abbrev S12x2048x4 : Shape := ⟨3, ![12, 2048, 4]⟩
abbrev S12x4x2048 : Shape := ⟨3, ![12, 4, 2048]⟩
abbrev S12x768x64 : Shape := ⟨3, ![12, 768, 64]⟩
abbrev S12x2048x128 : Shape := ⟨3, ![12, 2048, 128]⟩
abbrev S_ : Shape := ⟨0, ![]⟩
abbrev S256x256 : Shape := ⟨2, ![256, 256]⟩
abbrev S2048x48 : Shape := ⟨2, ![2048, 48]⟩
abbrev S2048x4 : Shape := ⟨2, ![2048, 4]⟩
abbrev S1x2048x4 : Shape := ⟨3, ![1, 2048, 4]⟩
abbrev S4x2048 : Shape := ⟨2, ![4, 2048]⟩
abbrev S1x4x2048 : Shape := ⟨3, ![1, 4, 2048]⟩
abbrev S1x768x64 : Shape := ⟨3, ![1, 768, 64]⟩
abbrev S1x2048x128 : Shape := ⟨3, ![1, 2048, 128]⟩
abbrev S768x64 : Shape := ⟨2, ![768, 64]⟩
abbrev S2048x64 : Shape := ⟨2, ![2048, 64]⟩
abbrev S2048x1 : Shape := ⟨2, ![2048, 1]⟩
abbrev S2048x63 : Shape := ⟨2, ![2048, 63]⟩
abbrev S2048x128 : Shape := ⟨2, ![2048, 128]⟩
abbrev S12x256x4 : Shape := ⟨3, ![12, 256, 4]⟩
abbrev S256x768 : Shape := ⟨2, ![256, 768]⟩
abbrev S1x256x4 : Shape := ⟨3, ![1, 256, 4]⟩
abbrev S256x4 : Shape := ⟨2, ![256, 4]⟩
abbrev S256x1 : Shape := ⟨2, ![256, 1]⟩
abbrev S256x128 : Shape := ⟨2, ![256, 128]⟩
abbrev S1x256x128 : Shape := ⟨3, ![1, 256, 128]⟩
abbrev S1x4x256 : Shape := ⟨3, ![1, 4, 256]⟩
abbrev S4x256 : Shape := ⟨2, ![4, 256]⟩
abbrev S1x256 : Shape := ⟨2, ![1, 256]⟩
abbrev S256x64 : Shape := ⟨2, ![256, 64]⟩

abbrev nBuf : Space → Nat
  | .hbm => 37
  | .vmem => 20
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S768x768, .f32⟩
  | .hbm, ⟨3, _⟩ => ⟨S768x768, .f32⟩
  | .hbm, ⟨4, _⟩ => ⟨S768x768, .f32⟩
  | .hbm, ⟨5, _⟩ => ⟨S4x64, .f32⟩
  | .hbm, ⟨6, _⟩ => ⟨S4x64, .f32⟩
  | .hbm, ⟨7, _⟩ => ⟨S2048x768, .f32⟩
  | .hbm, ⟨8, _⟩ => ⟨S768x768, .f32⟩
  | .hbm, ⟨9, _⟩ => ⟨S768x12x64, .f32⟩
  | .hbm, ⟨10, _⟩ => ⟨S768x12x4, .f32⟩
  | .hbm, ⟨11, _⟩ => ⟨S768x48, .f32⟩
  | .hbm, ⟨12, _⟩ => ⟨S768x768, .f32⟩
  | .hbm, ⟨13, _⟩ => ⟨S768x12x64, .f32⟩
  | .hbm, ⟨14, _⟩ => ⟨S768x12x4, .f32⟩
  | .hbm, ⟨15, _⟩ => ⟨S768x48, .f32⟩
  | .hbm, ⟨16, _⟩ => ⟨S12x2048x4, .f32⟩
  | .hbm, ⟨17, _⟩ => ⟨S12x4x2048, .f32⟩
  | .hbm, ⟨18, _⟩ => ⟨S12x4x2048, .f32⟩
  | .hbm, ⟨19, _⟩ => ⟨S768x768, .f32⟩
  | .hbm, ⟨20, _⟩ => ⟨S768x12x64, .f32⟩
  | .hbm, ⟨21, _⟩ => ⟨S12x768x64, .f32⟩
  | .hbm, ⟨22, _⟩ => ⟨S12x2048x128, .f32⟩
  | .hbm, ⟨23, _⟩ => ⟨S_, .f32⟩
  | .hbm, ⟨24, _⟩ => ⟨S256x256, .f32⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S768x768, .f32⟩
  | .hbm, ⟨35, _⟩ => ⟨S2048x768, .f32⟩
  | .hbm, ⟨36, _⟩ => ⟨S1x2048x768, .f32⟩
  | .local _ .vmem, ⟨0, _⟩ => ⟨S2048x768, .f32⟩
  | .local _ .vmem, ⟨1, _⟩ => ⟨S768x48, .f32⟩
  | .local _ .vmem, ⟨2, _⟩ => ⟨S768x48, .f32⟩
  | .local _ .vmem, ⟨3, _⟩ => ⟨S12x2048x4, .f32⟩
  | .local _ .vmem, ⟨4, _⟩ => ⟨S12x4x2048, .f32⟩
  | .local _ .vmem, ⟨5, _⟩ => ⟨S12x4x2048, .f32⟩
  | .local _ .vmem, ⟨6, _⟩ => ⟨S2048x768, .f32⟩
  | .local _ .vmem, ⟨7, _⟩ => ⟨S1x768x64, .f32⟩
  | .local _ .vmem, ⟨8, _⟩ => ⟨S1x768x64, .f32⟩
  | .local _ .vmem, ⟨9, _⟩ => ⟨S1x2048x128, .f32⟩
  | .local _ .vmem, ⟨10, _⟩ => ⟨S1x2048x128, .f32⟩
  | .local _ .vmem, ⟨11, _⟩ => ⟨S12x256x4, .f32⟩
  | .local _ .vmem, ⟨12, _⟩ => ⟨S12x256x4, .f32⟩
  | .local _ .vmem, ⟨13, _⟩ => ⟨S12x4x2048, .f32⟩
  | .local _ .vmem, ⟨14, _⟩ => ⟨S12x4x2048, .f32⟩
  | .local _ .vmem, ⟨15, _⟩ => ⟨S12x2048x128, .f32⟩
  | .local _ .vmem, ⟨16, _⟩ => ⟨S256x256, .f32⟩
  | .local _ .vmem, ⟨17, _⟩ => ⟨S768x768, .f32⟩
  | .local _ .vmem, ⟨18, _⟩ => ⟨S256x768, .f32⟩
  | .local _ .vmem, ⟨19, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9_0 : Ref sig .tc := ⟨.hbm, 16, rfl⟩
abbrev main_call0_v9_1 : Ref sig .tc := ⟨.hbm, 17, rfl⟩
abbrev main_call0_v9_2 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_cst : Ref sig .tc := ⟨.hbm, 31, rfl⟩
abbrev main_call0_call0_v5 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_v0 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x768x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

@[reducible] def k2_t1_loop (i : grid2.Coords) : Scf.Loop 32 :=
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_3 : BitVec 32 := 1#32
  ⟨c0_i32, v19, c1_i32_3⟩
def k2_off1 (i : grid2.Coords) (k2_t1 : Fin (k2_t1_loop i).trips) : Fin 3 → Nat :=
  let c0_302 : Index := 0#32
  let c0_i32 : BitVec 32 := 0#32
  let c1_i32_3 : BitVec 32 := 1#32
  let arg8 : BitVec 32 := Scf.iv c0_i32 c1_i32_3 k2_t1
  let c256_i32_301 : BitVec 32 := 256#32
  let v1133 : BitVec 32 := Scalar.muli arg8 c256_i32_301
  let v1134 : Index := Scalar.indexCast v1133
  let c0_303 : Index := 0#32
  ![0, v1134.toNat, 0]
def k2_off2 (i : grid2.Coords) (k2_t1 : Fin (k2_t1_loop i).trips) : Fin 3 → Nat :=
  let c0_305 : Index := 0#32
  let c0_306 : Index := 0#32
  let c0_i32 : BitVec 32 := 0#32
  let c1_i32_3 : BitVec 32 := 1#32
  let arg8 : BitVec 32 := Scf.iv c0_i32 c1_i32_3 k2_t1
  let c256_i32_304 : BitVec 32 := 256#32
  let v1137 : BitVec 32 := Scalar.muli arg8 c256_i32_304
  let v1138 : Index := Scalar.indexCast v1137
  ![0, 0, v1138.toNat]
@[reducible] def k2_t2_loop (i : grid2.Coords) : Scf.Loop 32 :=
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let v16 : BitVec 32 := Scalar.addi c0_i32 v15
  let c1_i32_4 : BitVec 32 := 1#32
  ⟨v19, v16, c1_i32_4⟩
def k2_off3 (i : grid2.Coords) (k2_t2 : Fin (k2_t2_loop i).trips) : Fin 3 → Nat :=
  let c0_302 : Index := 0#32
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_4 : BitVec 32 := 1#32
  let arg8 : BitVec 32 := Scf.iv v19 c1_i32_4 k2_t2
  let c256_i32_301 : BitVec 32 := 256#32
  let v1133 : BitVec 32 := Scalar.muli arg8 c256_i32_301
  let v1134 : Index := Scalar.indexCast v1133
  let c0_303 : Index := 0#32
  ![0, v1134.toNat, 0]
def k2_off4 (i : grid2.Coords) (k2_t2 : Fin (k2_t2_loop i).trips) : Fin 3 → Nat :=
  let c0_305 : Index := 0#32
  let c0_306 : Index := 0#32
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_4 : BitVec 32 := 1#32
  let arg8 : BitVec 32 := Scf.iv v19 c1_i32_4 k2_t2
  let c256_i32_304 : BitVec 32 := 256#32
  let v1137 : BitVec 32 := Scalar.muli arg8 c256_i32_304
  let v1138 : Index := Scalar.indexCast v1137
  ![0, 0, v1138.toNat]
def k2_off5 (i : grid2.Coords) : Fin 3 → Nat :=
  let c0_5 : Index := 0#32
  let arg0 : BitVec 32 := BitVec.ofNat 32 (i 0).val
  let c256_i32 : BitVec 32 := 256#32
  let v22 : BitVec 32 := Scalar.muli arg0 c256_i32
  let v23 : Index := Scalar.indexCast v22
  let c0_6 : Index := 0#32
  ![0, v23.toNat, 0]
def k2_off6 (i : grid2.Coords) : Fin 3 → Nat :=
  let c0_8 : Index := 0#32
  let c0_9 : Index := 0#32
  let arg0 : BitVec 32 := BitVec.ofNat 32 (i 0).val
  let c256_i32_7 : BitVec 32 := 256#32
  let v26 : BitVec 32 := Scalar.muli arg0 c256_i32_7
  let v27 : Index := Scalar.indexCast v26
  ![0, 0, v27.toNat]
@[reducible] def k2_t3_loop (i : grid2.Coords) : Scf.Loop 32 :=
  let c0_i32_25 : BitVec 32 := 0#32
  let arg0 : BitVec 32 := BitVec.ofNat 32 (i 0).val
  let v109 : BitVec 32 := Scalar.subi arg0 c0_i32_25
  let c1_i32_26 : BitVec 32 := 1#32
  let v111 : BitVec 32 := Scalar.divsi v109 c1_i32_26
  let v112 : BitVec 32 := Scalar.muli v111 c1_i32_26
  let v113 : BitVec 32 := Scalar.addi c0_i32_25 v112
  let c1_i32_27 : BitVec 32 := 1#32
  ⟨c0_i32_25, v113, c1_i32_27⟩
def k2_off7 (i : grid2.Coords) (k2_t3 : Fin (k2_t3_loop i).trips) : Fin 3 → Nat :=
  let c1_302 : Index := 1#32
  let c0_i32_25 : BitVec 32 := 0#32
  let c1_i32_27 : BitVec 32 := 1#32
  let arg8 : BitVec 32 := Scf.iv c0_i32_25 c1_i32_27 k2_t3
  let c256_i32_301 : BitVec 32 := 256#32
  let v1133 : BitVec 32 := Scalar.muli arg8 c256_i32_301
  let v1134 : Index := Scalar.indexCast v1133
  let c0_303 : Index := 0#32
  ![1, v1134.toNat, 0]
def k2_off8 (i : grid2.Coords) (k2_t3 : Fin (k2_t3_loop i).trips) : Fin 3 → Nat :=
  let c1_305 : Index := 1#32
  let c0_306 : Index := 0#32
  let c0_i32_25 : BitVec 32 := 0#32
  let c1_i32_27 : BitVec 32 := 1#32
  let arg8 : BitVec 32 := Scf.iv c0_i32_25 c1_i32_27 k2_t3
  let c256_i32_304 : BitVec 32 := 256#32
  let v1137 : BitVec 32 := Scalar.muli arg8 c256_i32_304
  let v1138 : Index := Scalar.indexCast v1137
  ![1, 0, v1138.toNat]
@[reducible] def k2_t4_loop (i : grid2.Coords) : Scf.Loop 32 :=
  let c0_i32_25 : BitVec 32 := 0#32
  let arg0 : BitVec 32 := BitVec.ofNat 32 (i 0).val
  let v109 : BitVec 32 := Scalar.subi arg0 c0_i32_25
  let c1_i32_26 : BitVec 32 := 1#32
  let v111 : BitVec 32 := Scalar.divsi v109 c1_i32_26
  let v112 : BitVec 32 := Scalar.muli v111 c1_i32_26
  let v113 : BitVec 32 := Scalar.addi c0_i32_25 v112
  let v110 : BitVec 32 := Scalar.addi c0_i32_25 v109
  let c1_i32_28 : BitVec 32 := 1#32
  ⟨v113, v110, c1_i32_28⟩
def k2_off9 (i : grid2.Coords) (k2_t4 : Fin (k2_t4_loop i).trips) : Fin 3 → Nat :=
  let c1_302 : Index := 1#32
  let c0_i32_25 : BitVec 32 := 0#32
  let arg0 : BitVec 32 := BitVec.ofNat 32 (i 0).val
  let v109 : BitVec 32 := Scalar.subi arg0 c0_i32_25
  let c1_i32_26 : BitVec 32 := 1#32
  let v111 : BitVec 32 := Scalar.divsi v109 c1_i32_26
  let v112 : BitVec 32 := Scalar.muli v111 c1_i32_26
  let v113 : BitVec 32 := Scalar.addi c0_i32_25 v112
  let c1_i32_28 : BitVec 32 := 1#32
  let arg8 : BitVec 32 := Scf.iv v113 c1_i32_28 k2_t4
  let c256_i32_301 : BitVec 32 := 256#32
  let v1133 : BitVec 32 := Scalar.muli arg8 c256_i32_301
  let v1134 : Index := Scalar.indexCast v1133
  let c0_303 : Index := 0#32
  ![1, v1134.toNat, 0]
def k2_off10 (i : grid2.Coords) (k2_t4 : Fin (k2_t4_loop i).trips) : Fin 3 → Nat :=
  let c1_305 : Index := 1#32
  let c0_306 : Index := 0#32
  let c0_i32_25 : BitVec 32 := 0#32
  let arg0 : BitVec 32 := BitVec.ofNat 32 (i 0).val
  let v109 : BitVec 32 := Scalar.subi arg0 c0_i32_25
  let c1_i32_26 : BitVec 32 := 1#32
  let v111 : BitVec 32 := Scalar.divsi v109 c1_i32_26
  let v112 : BitVec 32 := Scalar.muli v111 c1_i32_26
  let v113 : BitVec 32 := Scalar.addi c0_i32_25 v112
  let c1_i32_28 : BitVec 32 := 1#32
  let arg8 : BitVec 32 := Scf.iv v113 c1_i32_28 k2_t4
  let c256_i32_304 : BitVec 32 := 256#32
  let v1137 : BitVec 32 := Scalar.muli arg8 c256_i32_304
  let v1138 : Index := Scalar.indexCast v1137
  ![1, 0, v1138.toNat]
def k2_off11 (i : grid2.Coords) : Fin 3 → Nat :=
  let c1_30 : Index := 1#32
  let arg0 : BitVec 32 := BitVec.ofNat 32 (i 0).val
  let c256_i32_29 : BitVec 32 := 256#32
  let v116 : BitVec 32 := Scalar.muli arg0 c256_i32_29
  let v117 : Index := Scalar.indexCast v116
  let c0_31 : Index := 0#32
  ![1, v117.toNat, 0]
def k2_off12 (i : grid2.Coords) : Fin 3 → Nat :=
  let c1_33 : Index := 1#32
  let c0_34 : Index := 0#32
  let arg0 : BitVec 32 := BitVec.ofNat 32 (i 0).val
  let c256_i32_32 : BitVec 32 := 256#32
  let v120 : BitVec 32 := Scalar.muli arg0 c256_i32_32
  let v121 : Index := Scalar.indexCast v120
  ![1, 0, v121.toNat]
@[reducible] def k2_t5_loop (i : grid2.Coords) : Scf.Loop 32 :=
  let c0_i32_50 : BitVec 32 := 0#32
  let arg0 : BitVec 32 := BitVec.ofNat 32 (i 0).val
  let v203 : BitVec 32 := Scalar.subi arg0 c0_i32_50
  let c1_i32_51 : BitVec 32 := 1#32
  let v205 : BitVec 32 := Scalar.divsi v203 c1_i32_51
  let v206 : BitVec 32 := Scalar.muli v205 c1_i32_51
  let v207 : BitVec 32 := Scalar.addi c0_i32_50 v206
  let c1_i32_52 : BitVec 32 := 1#32
  ⟨c0_i32_50, v207, c1_i32_52⟩
def k2_off13 (i : grid2.Coords) (k2_t5 : Fin (k2_t5_loop i).trips) : Fin 3 → Nat :=
  let c2_302 : Index := 2#32
  let c0_i32_50 : BitVec 32 := 0#32
  let c1_i32_52 : BitVec 32 := 1#32
  let arg8 : BitVec 32 := Scf.iv c0_i32_50 c1_i32_52 k2_t5
  let c256_i32_301 : BitVec 32 := 256#32
  let v1133 : BitVec 32 := Scalar.muli arg8 c256_i32_301
  let v1134 : Index := Scalar.indexCast v1133
  let c0_303 : Index := 0#32
  ![2, v1134.toNat, 0]
def k2_off14 (i : grid2.Coords) (k2_t5 : Fin (k2_t5_loop i).trips) : Fin 3 → Nat :=
  let c2_305 : Index := 2#32
  let c0_306 : Index := 0#32
  let c0_i32_50 : BitVec 32 := 0#32
  let c1_i32_52 : BitVec 32 := 1#32
  let arg8 : BitVec 32 := Scf.iv c0_i32_50 c1_i32_52 k2_t5
  let c256_i32_304 : BitVec 32 := 256#32
  let v1137 : BitVec 32 := Scalar.muli arg8 c256_i32_304
  let v1138 : Index := Scalar.indexCast v1137
  ![2, 0, v1138.toNat]
@[reducible] def k2_t6_loop (i : grid2.Coords) : Scf.Loop 32 :=
  let c0_i32_50 : BitVec 32 := 0#32
  let arg0 : BitVec 32 := BitVec.ofNat 32 (i 0).val
  let v203 : BitVec 32 := Scalar.subi arg0 c0_i32_50
  let c1_i32_51 : BitVec 32 := 1#32
  let v205 : BitVec 32 := Scalar.divsi v203 c1_i32_51
  let v206 : BitVec 32 := Scalar.muli v205 c1_i32_51
  let v207 : BitVec 32 := Scalar.addi c0_i32_50 v206
  let v204 : BitVec 32 := Scalar.addi c0_i32_50 v203
  let c1_i32_53 : BitVec 32 := 1#32
  ⟨v207, v204, c1_i32_53⟩
def k2_off15 (i : grid2.Coords) (k2_t6 : Fin (k2_t6_loop i).trips) : Fin 3 → Nat :=
  let c2_302 : Index := 2#32
  let c0_i32_50 : BitVec 32 := 0#32
  let arg0 : BitVec 32 := BitVec.ofNat 32 (i 0).val
  let v203 : BitVec 32 := Scalar.subi arg0 c0_i32_50
  let c1_i32_51 : BitVec 32 := 1#32
  let v205 : BitVec 32 := Scalar.divsi v203 c1_i32_51
  let v206 : BitVec 32 := Scalar.muli v205 c1_i32_51
  let v207 : BitVec 32 := Scalar.addi c0_i32_50 v206
  let c1_i32_53 : BitVec 32 := 1#32
  let arg8 : BitVec 32 := Scf.iv v207 c1_i32_53 k2_t6
  let c256_i32_301 : BitVec 32 := 256#32
  let v1133 : BitVec 32 := Scalar.muli arg8 c256_i32_301
  let v1134 : Index := Scalar.indexCast v1133
  let c0_303 : Index := 0#32
  ![2, v1134.toNat, 0]
def k2_off16 (i : grid2.Coords) (k2_t6 : Fin (k2_t6_loop i).trips) : Fin 3 → Nat :=
  let c2_305 : Index := 2#32
  let c0_306 : Index := 0#32
  let c0_i32_50 : BitVec 32 := 0#32
  let arg0 : BitVec 32 := BitVec.ofNat 32 (i 0).val
  let v203 : BitVec 32 := Scalar.subi arg0 c0_i32_50
  let c1_i32_51 : BitVec 32 := 1#32
  let v205 : BitVec 32 := Scalar.divsi v203 c1_i32_51
  let v206 : BitVec 32 := Scalar.muli v205 c1_i32_51
  let v207 : BitVec 32 := Scalar.addi c0_i32_50 v206
  let c1_i32_53 : BitVec 32 := 1#32
  let arg8 : BitVec 32 := Scf.iv v207 c1_i32_53 k2_t6
  let c256_i32_304 : BitVec 32 := 256#32
  let v1137 : BitVec 32 := Scalar.muli arg8 c256_i32_304
  let v1138 : Index := Scalar.indexCast v1137
  ![2, 0, v1138.toNat]
def k2_off17 (i : grid2.Coords) : Fin 3 → Nat :=
  let c2_55 : Index := 2#32
  let arg0 : BitVec 32 := BitVec.ofNat 32 (i 0).val
  let c256_i32_54 : BitVec 32 := 256#32
  let v210 : BitVec 32 := Scalar.muli arg0 c256_i32_54
  let v211 : Index := Scalar.indexCast v210
  let c0_56 : Index := 0#32
  ![2, v211.toNat, 0]
def k2_off18 (i : grid2.Coords) : Fin 3 → Nat :=
  let c2_58 : Index := 2#32
  let c0_59 : Index := 0#32
  let arg0 : BitVec 32 := BitVec.ofNat 32 (i 0).val
  let c256_i32_57 : BitVec 32 := 256#32
  let v214 : BitVec 32 := Scalar.muli arg0 c256_i32_57
  let v215 : Index := Scalar.indexCast v214
  ![2, 0, v215.toNat]
@[reducible] def k2_t7_loop (i : grid2.Coords) : Scf.Loop 32 :=
  let c0_i32_75 : BitVec 32 := 0#32
  let arg0 : BitVec 32 := BitVec.ofNat 32 (i 0).val
  let v297 : BitVec 32 := Scalar.subi arg0 c0_i32_75
  let c1_i32_76 : BitVec 32 := 1#32
  let v299 : BitVec 32 := Scalar.divsi v297 c1_i32_76
  let v300 : BitVec 32 := Scalar.muli v299 c1_i32_76
  let v301 : BitVec 32 := Scalar.addi c0_i32_75 v300
  let c1_i32_77 : BitVec 32 := 1#32
  ⟨c0_i32_75, v301, c1_i32_77⟩
def k2_off19 (i : grid2.Coords) (k2_t7 : Fin (k2_t7_loop i).trips) : Fin 3 → Nat :=
  let c3_302 : Index := 3#32
  let c0_i32_75 : BitVec 32 := 0#32
  let c1_i32_77 : BitVec 32 := 1#32
  let arg8 : BitVec 32 := Scf.iv c0_i32_75 c1_i32_77 k2_t7
  let c256_i32_301 : BitVec 32 := 256#32
  let v1133 : BitVec 32 := Scalar.muli arg8 c256_i32_301
  let v1134 : Index := Scalar.indexCast v1133
  let c0_303 : Index := 0#32
  ![3, v1134.toNat, 0]
def k2_off20 (i : grid2.Coords) (k2_t7 : Fin (k2_t7_loop i).trips) : Fin 3 → Nat :=
  let c3_305 : Index := 3#32
  let c0_306 : Index := 0#32
  let c0_i32_75 : BitVec 32 := 0#32
  let c1_i32_77 : BitVec 32 := 1#32
  let arg8 : BitVec 32 := Scf.iv c0_i32_75 c1_i32_77 k2_t7
  let c256_i32_304 : BitVec 32 := 256#32
  let v1137 : BitVec 32 := Scalar.muli arg8 c256_i32_304
  let v1138 : Index := Scalar.indexCast v1137
  ![3, 0, v1138.toNat]
@[reducible] def k2_t8_loop (i : grid2.Coords) : Scf.Loop 32 :=
  let c0_i32_75 : BitVec 32 := 0#32
  let arg0 : BitVec 32 := BitVec.ofNat 32 (i 0).val
  let v297 : BitVec 32 := Scalar.subi arg0 c0_i32_75
  let c1_i32_76 : BitVec 32 := 1#32
  let v299 : BitVec 32 := Scalar.divsi v297 c1_i32_76
  let v300 : BitVec 32 := Scalar.muli v299 c1_i32_76
  let v301 : BitVec 32 := Scalar.addi c0_i32_75 v300
  let v298 : BitVec 32 := Scalar.addi c0_i32_75 v297
  let c1_i32_78 : BitVec 32 := 1#32
  ⟨v301, v298, c1_i32_78⟩
def k2_off21 (i : grid2.Coords) (k2_t8 : Fin (k2_t8_loop i).trips) : Fin 3 → Nat :=
  let c3_302 : Index := 3#32
  let c0_i32_75 : BitVec 32 := 0#32
  let arg0 : BitVec 32 := BitVec.ofNat 32 (i 0).val
  let v297 : BitVec 32 := Scalar.subi arg0 c0_i32_75
  let c1_i32_76 : BitVec 32 := 1#32
  let v299 : BitVec 32 := Scalar.divsi v297 c1_i32_76
  let v300 : BitVec 32 := Scalar.muli v299 c1_i32_76
  let v301 : BitVec 32 := Scalar.addi c0_i32_75 v300
  let c1_i32_78 : BitVec 32 := 1#32
  let arg8 : BitVec 32 := Scf.iv v301 c1_i32_78 k2_t8
  let c256_i32_301 : BitVec 32 := 256#32
  let v1133 : BitVec 32 := Scalar.muli arg8 c256_i32_301
  let v1134 : Index := Scalar.indexCast v1133
  let c0_303 : Index := 0#32
  ![3, v1134.toNat, 0]
def k2_off22 (i : grid2.Coords) (k2_t8 : Fin (k2_t8_loop i).trips) : Fin 3 → Nat :=
  let c3_305 : Index := 3#32
  let c0_306 : Index := 0#32
  let c0_i32_75 : BitVec 32 := 0#32
  let arg0 : BitVec 32 := BitVec.ofNat 32 (i 0).val
  let v297 : BitVec 32 := Scalar.subi arg0 c0_i32_75
  let c1_i32_76 : BitVec 32 := 1#32
  let v299 : BitVec 32 := Scalar.divsi v297 c1_i32_76
  let v300 : BitVec 32 := Scalar.muli v299 c1_i32_76
  let v301 : BitVec 32 := Scalar.addi c0_i32_75 v300
  let c1_i32_78 : BitVec 32 := 1#32
  let arg8 : BitVec 32 := Scf.iv v301 c1_i32_78 k2_t8
  let c256_i32_304 : BitVec 32 := 256#32
  let v1137 : BitVec 32 := Scalar.muli arg8 c256_i32_304
  let v1138 : Index := Scalar.indexCast v1137
  ![3, 0, v1138.toNat]
def k2_off23 (i : grid2.Coords) : Fin 3 → Nat :=
  let c3_80 : Index := 3#32
  let arg0 : BitVec 32 := BitVec.ofNat 32 (i 0).val
  let c256_i32_79 : BitVec 32 := 256#32
  let v304 : BitVec 32 := Scalar.muli arg0 c256_i32_79
  let v305 : Index := Scalar.indexCast v304
  let c0_81 : Index := 0#32
  ![3, v305.toNat, 0]
def k2_off24 (i : grid2.Coords) : Fin 3 → Nat :=
  let c3_83 : Index := 3#32
  let c0_84 : Index := 0#32
  let arg0 : BitVec 32 := BitVec.ofNat 32 (i 0).val
  let c256_i32_82 : BitVec 32 := 256#32
  let v308 : BitVec 32 := Scalar.muli arg0 c256_i32_82
  let v309 : Index := Scalar.indexCast v308
  ![3, 0, v309.toNat]
@[reducible] def k2_t9_loop (i : grid2.Coords) : Scf.Loop 32 :=
  let c0_i32_100 : BitVec 32 := 0#32
  let arg0 : BitVec 32 := BitVec.ofNat 32 (i 0).val
  let v391 : BitVec 32 := Scalar.subi arg0 c0_i32_100
  let c1_i32_101 : BitVec 32 := 1#32
  let v393 : BitVec 32 := Scalar.divsi v391 c1_i32_101
  let v394 : BitVec 32 := Scalar.muli v393 c1_i32_101
  let v395 : BitVec 32 := Scalar.addi c0_i32_100 v394
  let c1_i32_102 : BitVec 32 := 1#32
  ⟨c0_i32_100, v395, c1_i32_102⟩
def k2_off25 (i : grid2.Coords) (k2_t9 : Fin (k2_t9_loop i).trips) : Fin 3 → Nat :=
  let c4_302 : Index := 4#32
  let c0_i32_100 : BitVec 32 := 0#32
  let c1_i32_102 : BitVec 32 := 1#32
  let arg8 : BitVec 32 := Scf.iv c0_i32_100 c1_i32_102 k2_t9
  let c256_i32_301 : BitVec 32 := 256#32
  let v1133 : BitVec 32 := Scalar.muli arg8 c256_i32_301
  let v1134 : Index := Scalar.indexCast v1133
  let c0_303 : Index := 0#32
  ![4, v1134.toNat, 0]
def k2_off26 (i : grid2.Coords) (k2_t9 : Fin (k2_t9_loop i).trips) : Fin 3 → Nat :=
  let c4_305 : Index := 4#32
  let c0_306 : Index := 0#32
  let c0_i32_100 : BitVec 32 := 0#32
  let c1_i32_102 : BitVec 32 := 1#32
  let arg8 : BitVec 32 := Scf.iv c0_i32_100 c1_i32_102 k2_t9
  let c256_i32_304 : BitVec 32 := 256#32
  let v1137 : BitVec 32 := Scalar.muli arg8 c256_i32_304
  let v1138 : Index := Scalar.indexCast v1137
  ![4, 0, v1138.toNat]
@[reducible] def k2_t10_loop (i : grid2.Coords) : Scf.Loop 32 :=
  let c0_i32_100 : BitVec 32 := 0#32
  let arg0 : BitVec 32 := BitVec.ofNat 32 (i 0).val
  let v391 : BitVec 32 := Scalar.subi arg0 c0_i32_100
  let c1_i32_101 : BitVec 32 := 1#32
  let v393 : BitVec 32 := Scalar.divsi v391 c1_i32_101
  let v394 : BitVec 32 := Scalar.muli v393 c1_i32_101
  let v395 : BitVec 32 := Scalar.addi c0_i32_100 v394
  let v392 : BitVec 32 := Scalar.addi c0_i32_100 v391
  let c1_i32_103 : BitVec 32 := 1#32
  ⟨v395, v392, c1_i32_103⟩
def k2_off27 (i : grid2.Coords) (k2_t10 : Fin (k2_t10_loop i).trips) : Fin 3 → Nat :=
  let c4_302 : Index := 4#32
  let c0_i32_100 : BitVec 32 := 0#32
  let arg0 : BitVec 32 := BitVec.ofNat 32 (i 0).val
  let v391 : BitVec 32 := Scalar.subi arg0 c0_i32_100
  let c1_i32_101 : BitVec 32 := 1#32
  let v393 : BitVec 32 := Scalar.divsi v391 c1_i32_101
  let v394 : BitVec 32 := Scalar.muli v393 c1_i32_101
  let v395 : BitVec 32 := Scalar.addi c0_i32_100 v394
  let c1_i32_103 : BitVec 32 := 1#32
  let arg8 : BitVec 32 := Scf.iv v395 c1_i32_103 k2_t10
  let c256_i32_301 : BitVec 32 := 256#32
  let v1133 : BitVec 32 := Scalar.muli arg8 c256_i32_301
  let v1134 : Index := Scalar.indexCast v1133
  let c0_303 : Index := 0#32
  ![4, v1134.toNat, 0]
def k2_off28 (i : grid2.Coords) (k2_t10 : Fin (k2_t10_loop i).trips) : Fin 3 → Nat :=
  let c4_305 : Index := 4#32
  let c0_306 : Index := 0#32
  let c0_i32_100 : BitVec 32 := 0#32
  let arg0 : BitVec 32 := BitVec.ofNat 32 (i 0).val
  let v391 : BitVec 32 := Scalar.subi arg0 c0_i32_100
  let c1_i32_101 : BitVec 32 := 1#32
  let v393 : BitVec 32 := Scalar.divsi v391 c1_i32_101
  let v394 : BitVec 32 := Scalar.muli v393 c1_i32_101
  let v395 : BitVec 32 := Scalar.addi c0_i32_100 v394
  let c1_i32_103 : BitVec 32 := 1#32
  let arg8 : BitVec 32 := Scf.iv v395 c1_i32_103 k2_t10
  let c256_i32_304 : BitVec 32 := 256#32
  let v1137 : BitVec 32 := Scalar.muli arg8 c256_i32_304
  let v1138 : Index := Scalar.indexCast v1137
  ![4, 0, v1138.toNat]
def k2_off29 (i : grid2.Coords) : Fin 3 → Nat :=
  let c4_105 : Index := 4#32
  let arg0 : BitVec 32 := BitVec.ofNat 32 (i 0).val
  let c256_i32_104 : BitVec 32 := 256#32
  let v398 : BitVec 32 := Scalar.muli arg0 c256_i32_104
  let v399 : Index := Scalar.indexCast v398
  let c0_106 : Index := 0#32
  ![4, v399.toNat, 0]
def k2_off30 (i : grid2.Coords) : Fin 3 → Nat :=
  let c4_108 : Index := 4#32
  let c0_109 : Index := 0#32
  let arg0 : BitVec 32 := BitVec.ofNat 32 (i 0).val
  let c256_i32_107 : BitVec 32 := 256#32
  let v402 : BitVec 32 := Scalar.muli arg0 c256_i32_107
  let v403 : Index := Scalar.indexCast v402
  ![4, 0, v403.toNat]
@[reducible] def k2_t11_loop (i : grid2.Coords) : Scf.Loop 32 :=
  let c0_i32_125 : BitVec 32 := 0#32
  let arg0 : BitVec 32 := BitVec.ofNat 32 (i 0).val
  let v485 : BitVec 32 := Scalar.subi arg0 c0_i32_125
  let c1_i32_126 : BitVec 32 := 1#32
  let v487 : BitVec 32 := Scalar.divsi v485 c1_i32_126
  let v488 : BitVec 32 := Scalar.muli v487 c1_i32_126
  let v489 : BitVec 32 := Scalar.addi c0_i32_125 v488
  let c1_i32_127 : BitVec 32 := 1#32
  ⟨c0_i32_125, v489, c1_i32_127⟩
def k2_off31 (i : grid2.Coords) (k2_t11 : Fin (k2_t11_loop i).trips) : Fin 3 → Nat :=
  let c5_302 : Index := 5#32
  let c0_i32_125 : BitVec 32 := 0#32
  let c1_i32_127 : BitVec 32 := 1#32
  let arg8 : BitVec 32 := Scf.iv c0_i32_125 c1_i32_127 k2_t11
  let c256_i32_301 : BitVec 32 := 256#32
  let v1133 : BitVec 32 := Scalar.muli arg8 c256_i32_301
  let v1134 : Index := Scalar.indexCast v1133
  let c0_303 : Index := 0#32
  ![5, v1134.toNat, 0]
def k2_off32 (i : grid2.Coords) (k2_t11 : Fin (k2_t11_loop i).trips) : Fin 3 → Nat :=
  let c5_305 : Index := 5#32
  let c0_306 : Index := 0#32
  let c0_i32_125 : BitVec 32 := 0#32
  let c1_i32_127 : BitVec 32 := 1#32
  let arg8 : BitVec 32 := Scf.iv c0_i32_125 c1_i32_127 k2_t11
  let c256_i32_304 : BitVec 32 := 256#32
  let v1137 : BitVec 32 := Scalar.muli arg8 c256_i32_304
  let v1138 : Index := Scalar.indexCast v1137
  ![5, 0, v1138.toNat]
@[reducible] def k2_t12_loop (i : grid2.Coords) : Scf.Loop 32 :=
  let c0_i32_125 : BitVec 32 := 0#32
  let arg0 : BitVec 32 := BitVec.ofNat 32 (i 0).val
  let v485 : BitVec 32 := Scalar.subi arg0 c0_i32_125
  let c1_i32_126 : BitVec 32 := 1#32
  let v487 : BitVec 32 := Scalar.divsi v485 c1_i32_126
  let v488 : BitVec 32 := Scalar.muli v487 c1_i32_126
  let v489 : BitVec 32 := Scalar.addi c0_i32_125 v488
  let v486 : BitVec 32 := Scalar.addi c0_i32_125 v485
  let c1_i32_128 : BitVec 32 := 1#32
  ⟨v489, v486, c1_i32_128⟩
def k2_off33 (i : grid2.Coords) (k2_t12 : Fin (k2_t12_loop i).trips) : Fin 3 → Nat :=
  let c5_302 : Index := 5#32
  let c0_i32_125 : BitVec 32 := 0#32
  let arg0 : BitVec 32 := BitVec.ofNat 32 (i 0).val
  let v485 : BitVec 32 := Scalar.subi arg0 c0_i32_125
  let c1_i32_126 : BitVec 32 := 1#32
  let v487 : BitVec 32 := Scalar.divsi v485 c1_i32_126
  let v488 : BitVec 32 := Scalar.muli v487 c1_i32_126
  let v489 : BitVec 32 := Scalar.addi c0_i32_125 v488
  let c1_i32_128 : BitVec 32 := 1#32
  let arg8 : BitVec 32 := Scf.iv v489 c1_i32_128 k2_t12
  let c256_i32_301 : BitVec 32 := 256#32
  let v1133 : BitVec 32 := Scalar.muli arg8 c256_i32_301
  let v1134 : Index := Scalar.indexCast v1133
  let c0_303 : Index := 0#32
  ![5, v1134.toNat, 0]
def k2_off34 (i : grid2.Coords) (k2_t12 : Fin (k2_t12_loop i).trips) : Fin 3 → Nat :=
  let c5_305 : Index := 5#32
  let c0_306 : Index := 0#32
  let c0_i32_125 : BitVec 32 := 0#32
  let arg0 : BitVec 32 := BitVec.ofNat 32 (i 0).val
  let v485 : BitVec 32 := Scalar.subi arg0 c0_i32_125
  let c1_i32_126 : BitVec 32 := 1#32
  let v487 : BitVec 32 := Scalar.divsi v485 c1_i32_126
  let v488 : BitVec 32 := Scalar.muli v487 c1_i32_126
  let v489 : BitVec 32 := Scalar.addi c0_i32_125 v488
  let c1_i32_128 : BitVec 32 := 1#32
  let arg8 : BitVec 32 := Scf.iv v489 c1_i32_128 k2_t12
  let c256_i32_304 : BitVec 32 := 256#32
  let v1137 : BitVec 32 := Scalar.muli arg8 c256_i32_304
  let v1138 : Index := Scalar.indexCast v1137
  ![5, 0, v1138.toNat]
def k2_off35 (i : grid2.Coords) : Fin 3 → Nat :=
  let c5_130 : Index := 5#32
  let arg0 : BitVec 32 := BitVec.ofNat 32 (i 0).val
  let c256_i32_129 : BitVec 32 := 256#32
  let v492 : BitVec 32 := Scalar.muli arg0 c256_i32_129
  let v493 : Index := Scalar.indexCast v492
  let c0_131 : Index := 0#32
  ![5, v493.toNat, 0]
def k2_off36 (i : grid2.Coords) : Fin 3 → Nat :=
  let c5_133 : Index := 5#32
  let c0_134 : Index := 0#32
  let arg0 : BitVec 32 := BitVec.ofNat 32 (i 0).val
  let c256_i32_132 : BitVec 32 := 256#32
  let v496 : BitVec 32 := Scalar.muli arg0 c256_i32_132
  let v497 : Index := Scalar.indexCast v496
  ![5, 0, v497.toNat]
@[reducible] def k2_t13_loop (i : grid2.Coords) : Scf.Loop 32 :=
  let c0_i32_150 : BitVec 32 := 0#32
  let arg0 : BitVec 32 := BitVec.ofNat 32 (i 0).val
  let v579 : BitVec 32 := Scalar.subi arg0 c0_i32_150
  let c1_i32_151 : BitVec 32 := 1#32
  let v581 : BitVec 32 := Scalar.divsi v579 c1_i32_151
  let v582 : BitVec 32 := Scalar.muli v581 c1_i32_151
  let v583 : BitVec 32 := Scalar.addi c0_i32_150 v582
  let c1_i32_152 : BitVec 32 := 1#32
  ⟨c0_i32_150, v583, c1_i32_152⟩
def k2_off37 (i : grid2.Coords) (k2_t13 : Fin (k2_t13_loop i).trips) : Fin 3 → Nat :=
  let c6_302 : Index := 6#32
  let c0_i32_150 : BitVec 32 := 0#32
  let c1_i32_152 : BitVec 32 := 1#32
  let arg8 : BitVec 32 := Scf.iv c0_i32_150 c1_i32_152 k2_t13
  let c256_i32_301 : BitVec 32 := 256#32
  let v1133 : BitVec 32 := Scalar.muli arg8 c256_i32_301
  let v1134 : Index := Scalar.indexCast v1133
  let c0_303 : Index := 0#32
  ![6, v1134.toNat, 0]
def k2_off38 (i : grid2.Coords) (k2_t13 : Fin (k2_t13_loop i).trips) : Fin 3 → Nat :=
  let c6_305 : Index := 6#32
  let c0_306 : Index := 0#32
  let c0_i32_150 : BitVec 32 := 0#32
  let c1_i32_152 : BitVec 32 := 1#32
  let arg8 : BitVec 32 := Scf.iv c0_i32_150 c1_i32_152 k2_t13
  let c256_i32_304 : BitVec 32 := 256#32
  let v1137 : BitVec 32 := Scalar.muli arg8 c256_i32_304
  let v1138 : Index := Scalar.indexCast v1137
  ![6, 0, v1138.toNat]
@[reducible] def k2_t14_loop (i : grid2.Coords) : Scf.Loop 32 :=
  let c0_i32_150 : BitVec 32 := 0#32
  let arg0 : BitVec 32 := BitVec.ofNat 32 (i 0).val
  let v579 : BitVec 32 := Scalar.subi arg0 c0_i32_150
  let c1_i32_151 : BitVec 32 := 1#32
  let v581 : BitVec 32 := Scalar.divsi v579 c1_i32_151
  let v582 : BitVec 32 := Scalar.muli v581 c1_i32_151
  let v583 : BitVec 32 := Scalar.addi c0_i32_150 v582
  let v580 : BitVec 32 := Scalar.addi c0_i32_150 v579
  let c1_i32_153 : BitVec 32 := 1#32
  ⟨v583, v580, c1_i32_153⟩
def k2_off39 (i : grid2.Coords) (k2_t14 : Fin (k2_t14_loop i).trips) : Fin 3 → Nat :=
  let c6_302 : Index := 6#32
  let c0_i32_150 : BitVec 32 := 0#32
  let arg0 : BitVec 32 := BitVec.ofNat 32 (i 0).val
  let v579 : BitVec 32 := Scalar.subi arg0 c0_i32_150
  let c1_i32_151 : BitVec 32 := 1#32
  let v581 : BitVec 32 := Scalar.divsi v579 c1_i32_151
  let v582 : BitVec 32 := Scalar.muli v581 c1_i32_151
  let v583 : BitVec 32 := Scalar.addi c0_i32_150 v582
  let c1_i32_153 : BitVec 32 := 1#32
  let arg8 : BitVec 32 := Scf.iv v583 c1_i32_153 k2_t14
  let c256_i32_301 : BitVec 32 := 256#32
  let v1133 : BitVec 32 := Scalar.muli arg8 c256_i32_301
  let v1134 : Index := Scalar.indexCast v1133
  let c0_303 : Index := 0#32
  ![6, v1134.toNat, 0]
def k2_off40 (i : grid2.Coords) (k2_t14 : Fin (k2_t14_loop i).trips) : Fin 3 → Nat :=
  let c6_305 : Index := 6#32
  let c0_306 : Index := 0#32
  let c0_i32_150 : BitVec 32 := 0#32
  let arg0 : BitVec 32 := BitVec.ofNat 32 (i 0).val
  let v579 : BitVec 32 := Scalar.subi arg0 c0_i32_150
  let c1_i32_151 : BitVec 32 := 1#32
  let v581 : BitVec 32 := Scalar.divsi v579 c1_i32_151
  let v582 : BitVec 32 := Scalar.muli v581 c1_i32_151
  let v583 : BitVec 32 := Scalar.addi c0_i32_150 v582
  let c1_i32_153 : BitVec 32 := 1#32
  let arg8 : BitVec 32 := Scf.iv v583 c1_i32_153 k2_t14
  let c256_i32_304 : BitVec 32 := 256#32
  let v1137 : BitVec 32 := Scalar.muli arg8 c256_i32_304
  let v1138 : Index := Scalar.indexCast v1137
  ![6, 0, v1138.toNat]
def k2_off41 (i : grid2.Coords) : Fin 3 → Nat :=
  let c6_155 : Index := 6#32
  let arg0 : BitVec 32 := BitVec.ofNat 32 (i 0).val
  let c256_i32_154 : BitVec 32 := 256#32
  let v586 : BitVec 32 := Scalar.muli arg0 c256_i32_154
  let v587 : Index := Scalar.indexCast v586
  let c0_156 : Index := 0#32
  ![6, v587.toNat, 0]
def k2_off42 (i : grid2.Coords) : Fin 3 → Nat :=
  let c6_158 : Index := 6#32
  let c0_159 : Index := 0#32
  let arg0 : BitVec 32 := BitVec.ofNat 32 (i 0).val
  let c256_i32_157 : BitVec 32 := 256#32
  let v590 : BitVec 32 := Scalar.muli arg0 c256_i32_157
  let v591 : Index := Scalar.indexCast v590
  ![6, 0, v591.toNat]
@[reducible] def k2_t15_loop (i : grid2.Coords) : Scf.Loop 32 :=
  let c0_i32_175 : BitVec 32 := 0#32
  let arg0 : BitVec 32 := BitVec.ofNat 32 (i 0).val
  let v673 : BitVec 32 := Scalar.subi arg0 c0_i32_175
  let c1_i32_176 : BitVec 32 := 1#32
  let v675 : BitVec 32 := Scalar.divsi v673 c1_i32_176
  let v676 : BitVec 32 := Scalar.muli v675 c1_i32_176
  let v677 : BitVec 32 := Scalar.addi c0_i32_175 v676
  let c1_i32_177 : BitVec 32 := 1#32
  ⟨c0_i32_175, v677, c1_i32_177⟩
def k2_off43 (i : grid2.Coords) (k2_t15 : Fin (k2_t15_loop i).trips) : Fin 3 → Nat :=
  let c7_302 : Index := 7#32
  let c0_i32_175 : BitVec 32 := 0#32
  let c1_i32_177 : BitVec 32 := 1#32
  let arg8 : BitVec 32 := Scf.iv c0_i32_175 c1_i32_177 k2_t15
  let c256_i32_301 : BitVec 32 := 256#32
  let v1133 : BitVec 32 := Scalar.muli arg8 c256_i32_301
  let v1134 : Index := Scalar.indexCast v1133
  let c0_303 : Index := 0#32
  ![7, v1134.toNat, 0]
def k2_off44 (i : grid2.Coords) (k2_t15 : Fin (k2_t15_loop i).trips) : Fin 3 → Nat :=
  let c7_305 : Index := 7#32
  let c0_306 : Index := 0#32
  let c0_i32_175 : BitVec 32 := 0#32
  let c1_i32_177 : BitVec 32 := 1#32
  let arg8 : BitVec 32 := Scf.iv c0_i32_175 c1_i32_177 k2_t15
  let c256_i32_304 : BitVec 32 := 256#32
  let v1137 : BitVec 32 := Scalar.muli arg8 c256_i32_304
  let v1138 : Index := Scalar.indexCast v1137
  ![7, 0, v1138.toNat]
@[reducible] def k2_t16_loop (i : grid2.Coords) : Scf.Loop 32 :=
  let c0_i32_175 : BitVec 32 := 0#32
  let arg0 : BitVec 32 := BitVec.ofNat 32 (i 0).val
  let v673 : BitVec 32 := Scalar.subi arg0 c0_i32_175
  let c1_i32_176 : BitVec 32 := 1#32
  let v675 : BitVec 32 := Scalar.divsi v673 c1_i32_176
  let v676 : BitVec 32 := Scalar.muli v675 c1_i32_176
  let v677 : BitVec 32 := Scalar.addi c0_i32_175 v676
  let v674 : BitVec 32 := Scalar.addi c0_i32_175 v673
  let c1_i32_178 : BitVec 32 := 1#32
  ⟨v677, v674, c1_i32_178⟩
def k2_off45 (i : grid2.Coords) (k2_t16 : Fin (k2_t16_loop i).trips) : Fin 3 → Nat :=
  let c7_302 : Index := 7#32
  let c0_i32_175 : BitVec 32 := 0#32
  let arg0 : BitVec 32 := BitVec.ofNat 32 (i 0).val
  let v673 : BitVec 32 := Scalar.subi arg0 c0_i32_175
  let c1_i32_176 : BitVec 32 := 1#32
  let v675 : BitVec 32 := Scalar.divsi v673 c1_i32_176
  let v676 : BitVec 32 := Scalar.muli v675 c1_i32_176
  let v677 : BitVec 32 := Scalar.addi c0_i32_175 v676
  let c1_i32_178 : BitVec 32 := 1#32
  let arg8 : BitVec 32 := Scf.iv v677 c1_i32_178 k2_t16
  let c256_i32_301 : BitVec 32 := 256#32
  let v1133 : BitVec 32 := Scalar.muli arg8 c256_i32_301
  let v1134 : Index := Scalar.indexCast v1133
  let c0_303 : Index := 0#32
  ![7, v1134.toNat, 0]
def k2_off46 (i : grid2.Coords) (k2_t16 : Fin (k2_t16_loop i).trips) : Fin 3 → Nat :=
  let c7_305 : Index := 7#32
  let c0_306 : Index := 0#32
  let c0_i32_175 : BitVec 32 := 0#32
  let arg0 : BitVec 32 := BitVec.ofNat 32 (i 0).val
  let v673 : BitVec 32 := Scalar.subi arg0 c0_i32_175
  let c1_i32_176 : BitVec 32 := 1#32
  let v675 : BitVec 32 := Scalar.divsi v673 c1_i32_176
  let v676 : BitVec 32 := Scalar.muli v675 c1_i32_176
  let v677 : BitVec 32 := Scalar.addi c0_i32_175 v676
  let c1_i32_178 : BitVec 32 := 1#32
  let arg8 : BitVec 32 := Scf.iv v677 c1_i32_178 k2_t16
  let c256_i32_304 : BitVec 32 := 256#32
  let v1137 : BitVec 32 := Scalar.muli arg8 c256_i32_304
  let v1138 : Index := Scalar.indexCast v1137
  ![7, 0, v1138.toNat]
def k2_off47 (i : grid2.Coords) : Fin 3 → Nat :=
  let c7_180 : Index := 7#32
  let arg0 : BitVec 32 := BitVec.ofNat 32 (i 0).val
  let c256_i32_179 : BitVec 32 := 256#32
  let v680 : BitVec 32 := Scalar.muli arg0 c256_i32_179
  let v681 : Index := Scalar.indexCast v680
  let c0_181 : Index := 0#32
  ![7, v681.toNat, 0]
def k2_off48 (i : grid2.Coords) : Fin 3 → Nat :=
  let c7_183 : Index := 7#32
  let c0_184 : Index := 0#32
  let arg0 : BitVec 32 := BitVec.ofNat 32 (i 0).val
  let c256_i32_182 : BitVec 32 := 256#32
  let v684 : BitVec 32 := Scalar.muli arg0 c256_i32_182
  let v685 : Index := Scalar.indexCast v684
  ![7, 0, v685.toNat]
@[reducible] def k2_t17_loop (i : grid2.Coords) : Scf.Loop 32 :=
  let c0_i32_200 : BitVec 32 := 0#32
  let arg0 : BitVec 32 := BitVec.ofNat 32 (i 0).val
  let v767 : BitVec 32 := Scalar.subi arg0 c0_i32_200
  let c1_i32_201 : BitVec 32 := 1#32
  let v769 : BitVec 32 := Scalar.divsi v767 c1_i32_201
  let v770 : BitVec 32 := Scalar.muli v769 c1_i32_201
  let v771 : BitVec 32 := Scalar.addi c0_i32_200 v770
  let c1_i32_202 : BitVec 32 := 1#32
  ⟨c0_i32_200, v771, c1_i32_202⟩
def k2_off49 (i : grid2.Coords) (k2_t17 : Fin (k2_t17_loop i).trips) : Fin 3 → Nat :=
  let c8_302 : Index := 8#32
  let c0_i32_200 : BitVec 32 := 0#32
  let c1_i32_202 : BitVec 32 := 1#32
  let arg8 : BitVec 32 := Scf.iv c0_i32_200 c1_i32_202 k2_t17
  let c256_i32_301 : BitVec 32 := 256#32
  let v1133 : BitVec 32 := Scalar.muli arg8 c256_i32_301
  let v1134 : Index := Scalar.indexCast v1133
  let c0_303 : Index := 0#32
  ![8, v1134.toNat, 0]
def k2_off50 (i : grid2.Coords) (k2_t17 : Fin (k2_t17_loop i).trips) : Fin 3 → Nat :=
  let c8_305 : Index := 8#32
  let c0_306 : Index := 0#32
  let c0_i32_200 : BitVec 32 := 0#32
  let c1_i32_202 : BitVec 32 := 1#32
  let arg8 : BitVec 32 := Scf.iv c0_i32_200 c1_i32_202 k2_t17
  let c256_i32_304 : BitVec 32 := 256#32
  let v1137 : BitVec 32 := Scalar.muli arg8 c256_i32_304
  let v1138 : Index := Scalar.indexCast v1137
  ![8, 0, v1138.toNat]
@[reducible] def k2_t18_loop (i : grid2.Coords) : Scf.Loop 32 :=
  let c0_i32_200 : BitVec 32 := 0#32
  let arg0 : BitVec 32 := BitVec.ofNat 32 (i 0).val
  let v767 : BitVec 32 := Scalar.subi arg0 c0_i32_200
  let c1_i32_201 : BitVec 32 := 1#32
  let v769 : BitVec 32 := Scalar.divsi v767 c1_i32_201
  let v770 : BitVec 32 := Scalar.muli v769 c1_i32_201
  let v771 : BitVec 32 := Scalar.addi c0_i32_200 v770
  let v768 : BitVec 32 := Scalar.addi c0_i32_200 v767
  let c1_i32_203 : BitVec 32 := 1#32
  ⟨v771, v768, c1_i32_203⟩
def k2_off51 (i : grid2.Coords) (k2_t18 : Fin (k2_t18_loop i).trips) : Fin 3 → Nat :=
  let c8_302 : Index := 8#32
  let c0_i32_200 : BitVec 32 := 0#32
  let arg0 : BitVec 32 := BitVec.ofNat 32 (i 0).val
  let v767 : BitVec 32 := Scalar.subi arg0 c0_i32_200
  let c1_i32_201 : BitVec 32 := 1#32
  let v769 : BitVec 32 := Scalar.divsi v767 c1_i32_201
  let v770 : BitVec 32 := Scalar.muli v769 c1_i32_201
  let v771 : BitVec 32 := Scalar.addi c0_i32_200 v770
  let c1_i32_203 : BitVec 32 := 1#32
  let arg8 : BitVec 32 := Scf.iv v771 c1_i32_203 k2_t18
  let c256_i32_301 : BitVec 32 := 256#32
  let v1133 : BitVec 32 := Scalar.muli arg8 c256_i32_301
  let v1134 : Index := Scalar.indexCast v1133
  let c0_303 : Index := 0#32
  ![8, v1134.toNat, 0]
def k2_off52 (i : grid2.Coords) (k2_t18 : Fin (k2_t18_loop i).trips) : Fin 3 → Nat :=
  let c8_305 : Index := 8#32
  let c0_306 : Index := 0#32
  let c0_i32_200 : BitVec 32 := 0#32
  let arg0 : BitVec 32 := BitVec.ofNat 32 (i 0).val
  let v767 : BitVec 32 := Scalar.subi arg0 c0_i32_200
  let c1_i32_201 : BitVec 32 := 1#32
  let v769 : BitVec 32 := Scalar.divsi v767 c1_i32_201
  let v770 : BitVec 32 := Scalar.muli v769 c1_i32_201
  let v771 : BitVec 32 := Scalar.addi c0_i32_200 v770
  let c1_i32_203 : BitVec 32 := 1#32
  let arg8 : BitVec 32 := Scf.iv v771 c1_i32_203 k2_t18
  let c256_i32_304 : BitVec 32 := 256#32
  let v1137 : BitVec 32 := Scalar.muli arg8 c256_i32_304
  let v1138 : Index := Scalar.indexCast v1137
  ![8, 0, v1138.toNat]
def k2_off53 (i : grid2.Coords) : Fin 3 → Nat :=
  let c8_205 : Index := 8#32
  let arg0 : BitVec 32 := BitVec.ofNat 32 (i 0).val
  let c256_i32_204 : BitVec 32 := 256#32
  let v774 : BitVec 32 := Scalar.muli arg0 c256_i32_204
  let v775 : Index := Scalar.indexCast v774
  let c0_206 : Index := 0#32
  ![8, v775.toNat, 0]
def k2_off54 (i : grid2.Coords) : Fin 3 → Nat :=
  let c8_208 : Index := 8#32
  let c0_209 : Index := 0#32
  let arg0 : BitVec 32 := BitVec.ofNat 32 (i 0).val
  let c256_i32_207 : BitVec 32 := 256#32
  let v778 : BitVec 32 := Scalar.muli arg0 c256_i32_207
  let v779 : Index := Scalar.indexCast v778
  ![8, 0, v779.toNat]
@[reducible] def k2_t19_loop (i : grid2.Coords) : Scf.Loop 32 :=
  let c0_i32_225 : BitVec 32 := 0#32
  let arg0 : BitVec 32 := BitVec.ofNat 32 (i 0).val
  let v861 : BitVec 32 := Scalar.subi arg0 c0_i32_225
  let c1_i32_226 : BitVec 32 := 1#32
  let v863 : BitVec 32 := Scalar.divsi v861 c1_i32_226
  let v864 : BitVec 32 := Scalar.muli v863 c1_i32_226
  let v865 : BitVec 32 := Scalar.addi c0_i32_225 v864
  let c1_i32_227 : BitVec 32 := 1#32
  ⟨c0_i32_225, v865, c1_i32_227⟩
def k2_off55 (i : grid2.Coords) (k2_t19 : Fin (k2_t19_loop i).trips) : Fin 3 → Nat :=
  let c9_302 : Index := 9#32
  let c0_i32_225 : BitVec 32 := 0#32
  let c1_i32_227 : BitVec 32 := 1#32
  let arg8 : BitVec 32 := Scf.iv c0_i32_225 c1_i32_227 k2_t19
  let c256_i32_301 : BitVec 32 := 256#32
  let v1133 : BitVec 32 := Scalar.muli arg8 c256_i32_301
  let v1134 : Index := Scalar.indexCast v1133
  let c0_303 : Index := 0#32
  ![9, v1134.toNat, 0]
def k2_off56 (i : grid2.Coords) (k2_t19 : Fin (k2_t19_loop i).trips) : Fin 3 → Nat :=
  let c9_305 : Index := 9#32
  let c0_306 : Index := 0#32
  let c0_i32_225 : BitVec 32 := 0#32
  let c1_i32_227 : BitVec 32 := 1#32
  let arg8 : BitVec 32 := Scf.iv c0_i32_225 c1_i32_227 k2_t19
  let c256_i32_304 : BitVec 32 := 256#32
  let v1137 : BitVec 32 := Scalar.muli arg8 c256_i32_304
  let v1138 : Index := Scalar.indexCast v1137
  ![9, 0, v1138.toNat]
@[reducible] def k2_t20_loop (i : grid2.Coords) : Scf.Loop 32 :=
  let c0_i32_225 : BitVec 32 := 0#32
  let arg0 : BitVec 32 := BitVec.ofNat 32 (i 0).val
  let v861 : BitVec 32 := Scalar.subi arg0 c0_i32_225
  let c1_i32_226 : BitVec 32 := 1#32
  let v863 : BitVec 32 := Scalar.divsi v861 c1_i32_226
  let v864 : BitVec 32 := Scalar.muli v863 c1_i32_226
  let v865 : BitVec 32 := Scalar.addi c0_i32_225 v864
  let v862 : BitVec 32 := Scalar.addi c0_i32_225 v861
  let c1_i32_228 : BitVec 32 := 1#32
  ⟨v865, v862, c1_i32_228⟩
def k2_off57 (i : grid2.Coords) (k2_t20 : Fin (k2_t20_loop i).trips) : Fin 3 → Nat :=
  let c9_302 : Index := 9#32
  let c0_i32_225 : BitVec 32 := 0#32
  let arg0 : BitVec 32 := BitVec.ofNat 32 (i 0).val
  let v861 : BitVec 32 := Scalar.subi arg0 c0_i32_225
  let c1_i32_226 : BitVec 32 := 1#32
  let v863 : BitVec 32 := Scalar.divsi v861 c1_i32_226
  let v864 : BitVec 32 := Scalar.muli v863 c1_i32_226
  let v865 : BitVec 32 := Scalar.addi c0_i32_225 v864
  let c1_i32_228 : BitVec 32 := 1#32
  let arg8 : BitVec 32 := Scf.iv v865 c1_i32_228 k2_t20
  let c256_i32_301 : BitVec 32 := 256#32
  let v1133 : BitVec 32 := Scalar.muli arg8 c256_i32_301
  let v1134 : Index := Scalar.indexCast v1133
  let c0_303 : Index := 0#32
  ![9, v1134.toNat, 0]
def k2_off58 (i : grid2.Coords) (k2_t20 : Fin (k2_t20_loop i).trips) : Fin 3 → Nat :=
  let c9_305 : Index := 9#32
  let c0_306 : Index := 0#32
  let c0_i32_225 : BitVec 32 := 0#32
  let arg0 : BitVec 32 := BitVec.ofNat 32 (i 0).val
  let v861 : BitVec 32 := Scalar.subi arg0 c0_i32_225
  let c1_i32_226 : BitVec 32 := 1#32
  let v863 : BitVec 32 := Scalar.divsi v861 c1_i32_226
  let v864 : BitVec 32 := Scalar.muli v863 c1_i32_226
  let v865 : BitVec 32 := Scalar.addi c0_i32_225 v864
  let c1_i32_228 : BitVec 32 := 1#32
  let arg8 : BitVec 32 := Scf.iv v865 c1_i32_228 k2_t20
  let c256_i32_304 : BitVec 32 := 256#32
  let v1137 : BitVec 32 := Scalar.muli arg8 c256_i32_304
  let v1138 : Index := Scalar.indexCast v1137
  ![9, 0, v1138.toNat]
def k2_off59 (i : grid2.Coords) : Fin 3 → Nat :=
  let c9_230 : Index := 9#32
  let arg0 : BitVec 32 := BitVec.ofNat 32 (i 0).val
  let c256_i32_229 : BitVec 32 := 256#32
  let v868 : BitVec 32 := Scalar.muli arg0 c256_i32_229
  let v869 : Index := Scalar.indexCast v868
  let c0_231 : Index := 0#32
  ![9, v869.toNat, 0]
def k2_off60 (i : grid2.Coords) : Fin 3 → Nat :=
  let c9_233 : Index := 9#32
  let c0_234 : Index := 0#32
  let arg0 : BitVec 32 := BitVec.ofNat 32 (i 0).val
  let c256_i32_232 : BitVec 32 := 256#32
  let v872 : BitVec 32 := Scalar.muli arg0 c256_i32_232
  let v873 : Index := Scalar.indexCast v872
  ![9, 0, v873.toNat]
@[reducible] def k2_t21_loop (i : grid2.Coords) : Scf.Loop 32 :=
  let c0_i32_250 : BitVec 32 := 0#32
  let arg0 : BitVec 32 := BitVec.ofNat 32 (i 0).val
  let v955 : BitVec 32 := Scalar.subi arg0 c0_i32_250
  let c1_i32_251 : BitVec 32 := 1#32
  let v957 : BitVec 32 := Scalar.divsi v955 c1_i32_251
  let v958 : BitVec 32 := Scalar.muli v957 c1_i32_251
  let v959 : BitVec 32 := Scalar.addi c0_i32_250 v958
  let c1_i32_252 : BitVec 32 := 1#32
  ⟨c0_i32_250, v959, c1_i32_252⟩
def k2_off61 (i : grid2.Coords) (k2_t21 : Fin (k2_t21_loop i).trips) : Fin 3 → Nat :=
  let c10_302 : Index := 10#32
  let c0_i32_250 : BitVec 32 := 0#32
  let c1_i32_252 : BitVec 32 := 1#32
  let arg8 : BitVec 32 := Scf.iv c0_i32_250 c1_i32_252 k2_t21
  let c256_i32_301 : BitVec 32 := 256#32
  let v1133 : BitVec 32 := Scalar.muli arg8 c256_i32_301
  let v1134 : Index := Scalar.indexCast v1133
  let c0_303 : Index := 0#32
  ![10, v1134.toNat, 0]
def k2_off62 (i : grid2.Coords) (k2_t21 : Fin (k2_t21_loop i).trips) : Fin 3 → Nat :=
  let c10_305 : Index := 10#32
  let c0_306 : Index := 0#32
  let c0_i32_250 : BitVec 32 := 0#32
  let c1_i32_252 : BitVec 32 := 1#32
  let arg8 : BitVec 32 := Scf.iv c0_i32_250 c1_i32_252 k2_t21
  let c256_i32_304 : BitVec 32 := 256#32
  let v1137 : BitVec 32 := Scalar.muli arg8 c256_i32_304
  let v1138 : Index := Scalar.indexCast v1137
  ![10, 0, v1138.toNat]
@[reducible] def k2_t22_loop (i : grid2.Coords) : Scf.Loop 32 :=
  let c0_i32_250 : BitVec 32 := 0#32
  let arg0 : BitVec 32 := BitVec.ofNat 32 (i 0).val
  let v955 : BitVec 32 := Scalar.subi arg0 c0_i32_250
  let c1_i32_251 : BitVec 32 := 1#32
  let v957 : BitVec 32 := Scalar.divsi v955 c1_i32_251
  let v958 : BitVec 32 := Scalar.muli v957 c1_i32_251
  let v959 : BitVec 32 := Scalar.addi c0_i32_250 v958
  let v956 : BitVec 32 := Scalar.addi c0_i32_250 v955
  let c1_i32_253 : BitVec 32 := 1#32
  ⟨v959, v956, c1_i32_253⟩
def k2_off63 (i : grid2.Coords) (k2_t22 : Fin (k2_t22_loop i).trips) : Fin 3 → Nat :=
  let c10_302 : Index := 10#32
  let c0_i32_250 : BitVec 32 := 0#32
  let arg0 : BitVec 32 := BitVec.ofNat 32 (i 0).val
  let v955 : BitVec 32 := Scalar.subi arg0 c0_i32_250
  let c1_i32_251 : BitVec 32 := 1#32
  let v957 : BitVec 32 := Scalar.divsi v955 c1_i32_251
  let v958 : BitVec 32 := Scalar.muli v957 c1_i32_251
  let v959 : BitVec 32 := Scalar.addi c0_i32_250 v958
  let c1_i32_253 : BitVec 32 := 1#32
  let arg8 : BitVec 32 := Scf.iv v959 c1_i32_253 k2_t22
  let c256_i32_301 : BitVec 32 := 256#32
  let v1133 : BitVec 32 := Scalar.muli arg8 c256_i32_301
  let v1134 : Index := Scalar.indexCast v1133
  let c0_303 : Index := 0#32
  ![10, v1134.toNat, 0]
def k2_off64 (i : grid2.Coords) (k2_t22 : Fin (k2_t22_loop i).trips) : Fin 3 → Nat :=
  let c10_305 : Index := 10#32
  let c0_306 : Index := 0#32
  let c0_i32_250 : BitVec 32 := 0#32
  let arg0 : BitVec 32 := BitVec.ofNat 32 (i 0).val
  let v955 : BitVec 32 := Scalar.subi arg0 c0_i32_250
  let c1_i32_251 : BitVec 32 := 1#32
  let v957 : BitVec 32 := Scalar.divsi v955 c1_i32_251
  let v958 : BitVec 32 := Scalar.muli v957 c1_i32_251
  let v959 : BitVec 32 := Scalar.addi c0_i32_250 v958
  let c1_i32_253 : BitVec 32 := 1#32
  let arg8 : BitVec 32 := Scf.iv v959 c1_i32_253 k2_t22
  let c256_i32_304 : BitVec 32 := 256#32
  let v1137 : BitVec 32 := Scalar.muli arg8 c256_i32_304
  let v1138 : Index := Scalar.indexCast v1137
  ![10, 0, v1138.toNat]
def k2_off65 (i : grid2.Coords) : Fin 3 → Nat :=
  let c10_255 : Index := 10#32
  let arg0 : BitVec 32 := BitVec.ofNat 32 (i 0).val
  let c256_i32_254 : BitVec 32 := 256#32
  let v962 : BitVec 32 := Scalar.muli arg0 c256_i32_254
  let v963 : Index := Scalar.indexCast v962
  let c0_256 : Index := 0#32
  ![10, v963.toNat, 0]
def k2_off66 (i : grid2.Coords) : Fin 3 → Nat :=
  let c10_258 : Index := 10#32
  let c0_259 : Index := 0#32
  let arg0 : BitVec 32 := BitVec.ofNat 32 (i 0).val
  let c256_i32_257 : BitVec 32 := 256#32
  let v966 : BitVec 32 := Scalar.muli arg0 c256_i32_257
  let v967 : Index := Scalar.indexCast v966
  ![10, 0, v967.toNat]
@[reducible] def k2_t23_loop (i : grid2.Coords) : Scf.Loop 32 :=
  let c0_i32_275 : BitVec 32 := 0#32
  let arg0 : BitVec 32 := BitVec.ofNat 32 (i 0).val
  let v1049 : BitVec 32 := Scalar.subi arg0 c0_i32_275
  let c1_i32_276 : BitVec 32 := 1#32
  let v1051 : BitVec 32 := Scalar.divsi v1049 c1_i32_276
  let v1052 : BitVec 32 := Scalar.muli v1051 c1_i32_276
  let v1053 : BitVec 32 := Scalar.addi c0_i32_275 v1052
  let c1_i32_277 : BitVec 32 := 1#32
  ⟨c0_i32_275, v1053, c1_i32_277⟩
def k2_off67 (i : grid2.Coords) (k2_t23 : Fin (k2_t23_loop i).trips) : Fin 3 → Nat :=
  let c11_302 : Index := 11#32
  let c0_i32_275 : BitVec 32 := 0#32
  let c1_i32_277 : BitVec 32 := 1#32
  let arg8 : BitVec 32 := Scf.iv c0_i32_275 c1_i32_277 k2_t23
  let c256_i32_301 : BitVec 32 := 256#32
  let v1133 : BitVec 32 := Scalar.muli arg8 c256_i32_301
  let v1134 : Index := Scalar.indexCast v1133
  let c0_303 : Index := 0#32
  ![11, v1134.toNat, 0]
def k2_off68 (i : grid2.Coords) (k2_t23 : Fin (k2_t23_loop i).trips) : Fin 3 → Nat :=
  let c11_305 : Index := 11#32
  let c0_306 : Index := 0#32
  let c0_i32_275 : BitVec 32 := 0#32
  let c1_i32_277 : BitVec 32 := 1#32
  let arg8 : BitVec 32 := Scf.iv c0_i32_275 c1_i32_277 k2_t23
  let c256_i32_304 : BitVec 32 := 256#32
  let v1137 : BitVec 32 := Scalar.muli arg8 c256_i32_304
  let v1138 : Index := Scalar.indexCast v1137
  ![11, 0, v1138.toNat]
@[reducible] def k2_t24_loop (i : grid2.Coords) : Scf.Loop 32 :=
  let c0_i32_275 : BitVec 32 := 0#32
  let arg0 : BitVec 32 := BitVec.ofNat 32 (i 0).val
  let v1049 : BitVec 32 := Scalar.subi arg0 c0_i32_275
  let c1_i32_276 : BitVec 32 := 1#32
  let v1051 : BitVec 32 := Scalar.divsi v1049 c1_i32_276
  let v1052 : BitVec 32 := Scalar.muli v1051 c1_i32_276
  let v1053 : BitVec 32 := Scalar.addi c0_i32_275 v1052
  let v1050 : BitVec 32 := Scalar.addi c0_i32_275 v1049
  let c1_i32_278 : BitVec 32 := 1#32
  ⟨v1053, v1050, c1_i32_278⟩
def k2_off69 (i : grid2.Coords) (k2_t24 : Fin (k2_t24_loop i).trips) : Fin 3 → Nat :=
  let c11_302 : Index := 11#32
  let c0_i32_275 : BitVec 32 := 0#32
  let arg0 : BitVec 32 := BitVec.ofNat 32 (i 0).val
  let v1049 : BitVec 32 := Scalar.subi arg0 c0_i32_275
  let c1_i32_276 : BitVec 32 := 1#32
  let v1051 : BitVec 32 := Scalar.divsi v1049 c1_i32_276
  let v1052 : BitVec 32 := Scalar.muli v1051 c1_i32_276
  let v1053 : BitVec 32 := Scalar.addi c0_i32_275 v1052
  let c1_i32_278 : BitVec 32 := 1#32
  let arg8 : BitVec 32 := Scf.iv v1053 c1_i32_278 k2_t24
  let c256_i32_301 : BitVec 32 := 256#32
  let v1133 : BitVec 32 := Scalar.muli arg8 c256_i32_301
  let v1134 : Index := Scalar.indexCast v1133
  let c0_303 : Index := 0#32
  ![11, v1134.toNat, 0]
def k2_off70 (i : grid2.Coords) (k2_t24 : Fin (k2_t24_loop i).trips) : Fin 3 → Nat :=
  let c11_305 : Index := 11#32
  let c0_306 : Index := 0#32
  let c0_i32_275 : BitVec 32 := 0#32
  let arg0 : BitVec 32 := BitVec.ofNat 32 (i 0).val
  let v1049 : BitVec 32 := Scalar.subi arg0 c0_i32_275
  let c1_i32_276 : BitVec 32 := 1#32
  let v1051 : BitVec 32 := Scalar.divsi v1049 c1_i32_276
  let v1052 : BitVec 32 := Scalar.muli v1051 c1_i32_276
  let v1053 : BitVec 32 := Scalar.addi c0_i32_275 v1052
  let c1_i32_278 : BitVec 32 := 1#32
  let arg8 : BitVec 32 := Scf.iv v1053 c1_i32_278 k2_t24
  let c256_i32_304 : BitVec 32 := 256#32
  let v1137 : BitVec 32 := Scalar.muli arg8 c256_i32_304
  let v1138 : Index := Scalar.indexCast v1137
  ![11, 0, v1138.toNat]
def k2_off71 (i : grid2.Coords) : Fin 3 → Nat :=
  let c11_280 : Index := 11#32
  let arg0 : BitVec 32 := BitVec.ofNat 32 (i 0).val
  let c256_i32_279 : BitVec 32 := 256#32
  let v1056 : BitVec 32 := Scalar.muli arg0 c256_i32_279
  let v1057 : Index := Scalar.indexCast v1056
  let c0_281 : Index := 0#32
  ![11, v1057.toNat, 0]
def k2_off72 (i : grid2.Coords) : Fin 3 → Nat :=
  let c11_283 : Index := 11#32
  let c0_284 : Index := 0#32
  let arg0 : BitVec 32 := BitVec.ofNat 32 (i 0).val
  let c256_i32_282 : BitVec 32 := 256#32
  let v1060 : BitVec 32 := Scalar.muli arg0 c256_i32_282
  let v1061 : Index := Scalar.indexCast v1060
  ![11, 0, v1061.toNat]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12x256x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12x4x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S12x4x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S12x2048x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "half" => some ((16 * (Real.log 2)⁻¹ : ℝ) : EReal)
  | "scale" => some ((32 * (Real.log 2)⁻¹ : ℝ) : EReal)
  | _ => none
-- ==== ReferenceIdeal.lean ====
abbrev S1x2048x768 : Shape := ⟨3, ![1, 2048, 768]⟩
abbrev S768x768 : Shape := ⟨2, ![768, 768]⟩
abbrev S4x64 : Shape := ⟨2, ![4, 64]⟩
abbrev S1x2048x12x64 : Shape := ⟨4, ![1, 2048, 12, 64]⟩
abbrev S1x12x2048x64 : Shape := ⟨4, ![1, 12, 2048, 64]⟩
abbrev S64x4 : Shape := ⟨2, ![64, 4]⟩
abbrev S1x12x2048x4 : Shape := ⟨4, ![1, 12, 2048, 4]⟩
abbrev S_ : Shape := ⟨0, ![]⟩
abbrev S1x12x2048x2048 : Shape := ⟨4, ![1, 12, 2048, 2048]⟩
abbrev S1x12x2048x1 : Shape := ⟨4, ![1, 12, 2048, 1]⟩
abbrev S1x12x2048 : Shape := ⟨3, ![1, 12, 2048]⟩
abbrev S1x12x1x2048 : Shape := ⟨4, ![1, 12, 1, 2048]⟩
abbrev S2048x2048 : Shape := ⟨2, ![2048, 2048]⟩
abbrev S1x1x2048x2048 : Shape := ⟨4, ![1, 1, 2048, 2048]⟩
abbrev S12x2048x2048 : Shape := ⟨3, ![12, 2048, 2048]⟩
abbrev S12x2048x64 : Shape := ⟨3, ![12, 2048, 64]⟩

abbrev nBuf : Space → Nat
  | .hbm => 196
  | .vmem => 0
  | .smem => 0
  | _ => 0

abbrev hbmTy0_0 (i : Nat) : BufTy := match i % 128 with
  | 0 => ⟨S1x2048x768, .f32⟩
  | 1 => ⟨S768x768, .f32⟩
  | 2 => ⟨S768x768, .f32⟩
  | 3 => ⟨S768x768, .f32⟩
  | 4 => ⟨S768x768, .f32⟩
  | 5 => ⟨S4x64, .f32⟩
  | 6 => ⟨S4x64, .f32⟩
  | 7 => ⟨S768x768, .f32⟩
  | 8 => ⟨S1x2048x768, .f32⟩
  | 9 => ⟨S1x2048x12x64, .f32⟩
  | 10 => ⟨S1x12x2048x64, .f32⟩
  | 11 => ⟨S768x768, .f32⟩
  | 12 => ⟨S1x2048x768, .f32⟩
  | 13 => ⟨S1x2048x12x64, .f32⟩
  | 14 => ⟨S1x12x2048x64, .f32⟩
  | 15 => ⟨S768x768, .f32⟩
  | 16 => ⟨S1x2048x768, .f32⟩
  | 17 => ⟨S1x2048x12x64, .f32⟩
  | 18 => ⟨S1x12x2048x64, .f32⟩
  | 19 => ⟨S64x4, .f32⟩
  | 20 => ⟨S1x12x2048x4, .f32⟩
  | 21 => ⟨S1x12x2048x4, .f32⟩
  | 22 => ⟨S1x12x2048x4, .f32⟩
  | 23 => ⟨S_, .f32⟩
  | 24 => ⟨S1x12x2048x4, .f32⟩
  | 25 => ⟨S1x12x2048x4, .f32⟩
  | 26 => ⟨S_, .f32⟩
  | 27 => ⟨S1x12x2048x4, .f32⟩
  | 28 => ⟨S1x12x2048x4, .f32⟩
  | 29 => ⟨S_, .f32⟩
  | 30 => ⟨S1x12x2048x4, .f32⟩
  | 31 => ⟨S1x12x2048x4, .f32⟩
  | 32 => ⟨S64x4, .f32⟩
  | 33 => ⟨S1x12x2048x4, .f32⟩
  | 34 => ⟨S1x12x2048x4, .f32⟩
  | 35 => ⟨S1x12x2048x4, .f32⟩
  | 36 => ⟨S_, .f32⟩
  | 37 => ⟨S1x12x2048x4, .f32⟩
  | 38 => ⟨S1x12x2048x4, .f32⟩
  | 39 => ⟨S_, .f32⟩
  | 40 => ⟨S1x12x2048x4, .f32⟩
  | 41 => ⟨S1x12x2048x4, .f32⟩
  | 42 => ⟨S_, .f32⟩
  | 43 => ⟨S1x12x2048x4, .f32⟩
  | 44 => ⟨S1x12x2048x4, .f32⟩
  | 45 => ⟨S_, .f32⟩
  | 46 => ⟨S1x12x2048x2048, .f32⟩
  | 47 => ⟨S_, .f32⟩
  | 48 => ⟨S1x12x2048x2048, .f32⟩
  | 49 => ⟨S1x12x2048x1, .f32⟩
  | 50 => ⟨S1x12x2048, .f32⟩
  | 51 => ⟨S1x12x2048x1, .f32⟩
  | 52 => ⟨S1x12x2048x1, .f32⟩
  | 53 => ⟨S1x12x2048, .f32⟩
  | 54 => ⟨S1x12x1x2048, .f32⟩
  | 55 => ⟨S1x12x2048x2048, .f32⟩
  | 56 => ⟨S1x12x2048x2048, .f32⟩
  | 57 => ⟨S1x12x2048x2048, .f32⟩
  | 58 => ⟨S1x12x2048x2048, .f32⟩
  | 59 => ⟨S_, .f32⟩
  | 60 => ⟨S1x12x2048x2048, .f32⟩
  | 61 => ⟨S1x12x2048x2048, .f32⟩
  | 62 => ⟨S_, .f32⟩
  | 63 => ⟨S1x12x2048x2048, .f32⟩
  | 64 => ⟨S1x12x2048x2048, .f32⟩
  | 65 => ⟨S1x12x2048x2048, .f32⟩
  | 66 => ⟨S1x12x2048x2048, .f32⟩
  | 67 => ⟨S_, .f32⟩
  | 68 => ⟨S1x12x2048x2048, .f32⟩
  | 69 => ⟨S1x12x2048x2048, .f32⟩
  | 70 => ⟨S_, .f32⟩
  | 71 => ⟨S1x12x2048x2048, .f32⟩
  | 72 => ⟨S1x12x2048x2048, .f32⟩
  | 73 => ⟨S1x12x2048x2048, .f32⟩
  | 74 => ⟨S1x12x2048x2048, .f32⟩
  | 75 => ⟨S1x12x2048x1, .f32⟩
  | 76 => ⟨S1x12x2048, .f32⟩
  | 77 => ⟨S1x12x2048x1, .f32⟩
  | 78 => ⟨S1x12x2048x1, .f32⟩
  | 79 => ⟨S1x12x2048, .f32⟩
  | 80 => ⟨S1x12x1x2048, .f32⟩
  | 81 => ⟨S1x12x2048x2048, .f32⟩
  | 82 => ⟨S1x12x2048x2048, .f32⟩
  | 83 => ⟨S1x12x2048x2048, .f32⟩
  | 84 => ⟨S1x12x2048x2048, .f32⟩
  | 85 => ⟨S_, .f32⟩
  | 86 => ⟨S1x12x2048x2048, .f32⟩
  | 87 => ⟨S1x12x2048x2048, .f32⟩
  | 88 => ⟨S_, .f32⟩
  | 89 => ⟨S1x12x2048x2048, .f32⟩
  | 90 => ⟨S1x12x2048x2048, .f32⟩
  | 91 => ⟨S1x12x2048x2048, .f32⟩
  | 92 => ⟨S1x12x2048x2048, .f32⟩
  | 93 => ⟨S_, .f32⟩
  | 94 => ⟨S1x12x2048x2048, .f32⟩
  | 95 => ⟨S1x12x2048x2048, .f32⟩
  | 96 => ⟨S_, .f32⟩
  | 97 => ⟨S1x12x2048x2048, .f32⟩
  | 98 => ⟨S1x12x2048x2048, .f32⟩
  | 99 => ⟨S1x12x2048x2048, .f32⟩
  | 100 => ⟨S1x12x2048x2048, .f32⟩
  | 101 => ⟨S1x12x2048x1, .f32⟩
  | 102 => ⟨S1x12x2048, .f32⟩
  | 103 => ⟨S1x12x2048x1, .f32⟩
  | 104 => ⟨S1x12x2048x1, .f32⟩
  | 105 => ⟨S1x12x2048, .f32⟩
  | 106 => ⟨S1x12x1x2048, .f32⟩
  | 107 => ⟨S1x12x2048x2048, .f32⟩
  | 108 => ⟨S1x12x2048x2048, .f32⟩
  | 109 => ⟨S1x12x2048x2048, .f32⟩
  | 110 => ⟨S1x12x2048x2048, .f32⟩
  | 111 => ⟨S_, .f32⟩
  | 112 => ⟨S1x12x2048x2048, .f32⟩
  | 113 => ⟨S1x12x2048x2048, .f32⟩
  | 114 => ⟨S_, .f32⟩
  | 115 => ⟨S1x12x2048x2048, .f32⟩
  | 116 => ⟨S1x12x2048x2048, .f32⟩
  | 117 => ⟨S1x12x2048x2048, .f32⟩
  | 118 => ⟨S1x12x2048x2048, .f32⟩
  | 119 => ⟨S_, .f32⟩
  | 120 => ⟨S1x12x2048x2048, .f32⟩
  | 121 => ⟨S1x12x2048x2048, .f32⟩
  | 122 => ⟨S_, .f32⟩
  | 123 => ⟨S1x12x2048x2048, .f32⟩
  | 124 => ⟨S1x12x2048x2048, .f32⟩
  | 125 => ⟨S1x12x2048x2048, .f32⟩
  | 126 => ⟨S1x12x2048x2048, .f32⟩
  | 127 => ⟨S1x12x2048x1, .f32⟩
  | _ => ⟨S1x2048x768, .f32⟩

abbrev hbmTy0_1 (i : Nat) : BufTy := match i % 128 with
  | 0 => ⟨S1x12x2048, .f32⟩
  | 1 => ⟨S1x12x2048x1, .f32⟩
  | 2 => ⟨S1x12x2048x1, .f32⟩
  | 3 => ⟨S1x12x2048, .f32⟩
  | 4 => ⟨S1x12x1x2048, .f32⟩
  | 5 => ⟨S1x12x2048x2048, .f32⟩
  | 6 => ⟨S1x12x2048x2048, .f32⟩
  | 7 => ⟨S1x12x2048x2048, .f32⟩
  | 8 => ⟨S1x12x2048x2048, .f32⟩
  | 9 => ⟨S_, .f32⟩
  | 10 => ⟨S1x12x2048x2048, .f32⟩
  | 11 => ⟨S1x12x2048x2048, .f32⟩
  | 12 => ⟨S_, .f32⟩
  | 13 => ⟨S1x12x2048x2048, .f32⟩
  | 14 => ⟨S1x12x2048x2048, .f32⟩
  | 15 => ⟨S1x12x2048x2048, .f32⟩
  | 16 => ⟨S1x12x2048x2048, .f32⟩
  | 17 => ⟨S_, .f32⟩
  | 18 => ⟨S1x12x2048x2048, .f32⟩
  | 19 => ⟨S1x12x2048x2048, .f32⟩
  | 20 => ⟨S_, .f32⟩
  | 21 => ⟨S1x12x2048x2048, .f32⟩
  | 22 => ⟨S1x12x2048x2048, .f32⟩
  | 23 => ⟨S1x12x2048x2048, .f32⟩
  | 24 => ⟨S1x12x2048x2048, .f32⟩
  | 25 => ⟨S_, .f32⟩
  | 26 => ⟨S_, .f32⟩
  | 27 => ⟨S1x12x2048x2048, .f32⟩
  | 28 => ⟨S1x12x2048x2048, .f32⟩
  | 29 => ⟨S_, .i1⟩
  | 30 => ⟨S2048x2048, .i1⟩
  | 31 => ⟨S2048x2048, .i32⟩
  | 32 => ⟨S_, .i32⟩
  | 33 => ⟨S2048x2048, .i32⟩
  | 34 => ⟨S2048x2048, .i32⟩
  | 35 => ⟨S2048x2048, .i32⟩
  | 36 => ⟨S2048x2048, .i1⟩
  | 37 => ⟨S_, .i1⟩
  | 38 => ⟨S2048x2048, .i1⟩
  | 39 => ⟨S2048x2048, .i1⟩
  | 40 => ⟨S1x1x2048x2048, .i1⟩
  | 41 => ⟨S_, .f32⟩
  | 42 => ⟨S_, .f32⟩
  | 43 => ⟨S1x12x2048x2048, .i1⟩
  | 44 => ⟨S1x12x2048x2048, .f32⟩
  | 45 => ⟨S1x12x2048x2048, .f32⟩
  | 46 => ⟨S_, .f32⟩
  | 47 => ⟨S1x12x2048, .f32⟩
  | 48 => ⟨S_, .f32⟩
  | 49 => ⟨S1x12x2048, .f32⟩
  | 50 => ⟨S1x12x2048, .f32⟩
  | 51 => ⟨S1x12x2048x1, .f32⟩
  | 52 => ⟨S1x12x2048x2048, .f32⟩
  | 53 => ⟨S1x12x2048x2048, .f32⟩
  | 54 => ⟨S1x12x2048x2048, .f32⟩
  | 55 => ⟨S_, .f32⟩
  | 56 => ⟨S1x12x2048, .f32⟩
  | 57 => ⟨S1x12x2048x1, .f32⟩
  | 58 => ⟨S1x12x2048x2048, .f32⟩
  | 59 => ⟨S1x12x2048x2048, .f32⟩
  | 60 => ⟨S12x2048x2048, .f32⟩
  | 61 => ⟨S12x2048x64, .f32⟩
  | 62 => ⟨S12x2048x64, .f32⟩
  | 63 => ⟨S1x12x2048x64, .f32⟩
  | 64 => ⟨S1x2048x12x64, .f32⟩
  | 65 => ⟨S1x2048x768, .f32⟩
  | 66 => ⟨S768x768, .f32⟩
  | 67 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_17 : Ref sig .tc := ⟨.hbm, 119, rfl⟩
abbrev main_v94 : Ref sig .tc := ⟨.hbm, 120, rfl⟩
abbrev main_v95 : Ref sig .tc := ⟨.hbm, 121, rfl⟩
abbrev main_cst_18 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_19 : Ref sig .tc := ⟨.hbm, 137, rfl⟩
abbrev main_v110 : Ref sig .tc := ⟨.hbm, 138, rfl⟩
abbrev main_v111 : Ref sig .tc := ⟨.hbm, 139, rfl⟩
abbrev main_cst_20 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_21 : Ref sig .tc := ⟨.hbm, 145, rfl⟩
abbrev main_v116 : Ref sig .tc := ⟨.hbm, 146, rfl⟩
abbrev main_v117 : Ref sig .tc := ⟨.hbm, 147, rfl⟩
abbrev main_cst_22 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_c : Ref sig .tc := ⟨.hbm, 157, rfl⟩
abbrev main_v125 : Ref sig .tc := ⟨.hbm, 158, rfl⟩
abbrev main_call0_v0 : Ref sig .tc := ⟨.hbm, 159, rfl⟩
abbrev main_call0_c : Ref sig .tc := ⟨.hbm, 160, rfl⟩
abbrev main_call0_v1 : Ref sig .tc := ⟨.hbm, 161, rfl⟩
abbrev main_call0_v2 : Ref sig .tc := ⟨.hbm, 162, rfl⟩
abbrev main_call0_v3 : Ref sig .tc := ⟨.hbm, 163, rfl⟩
abbrev main_call0_v4 : Ref sig .tc := ⟨.hbm, 164, rfl⟩
abbrev main_call0_c_0 : Ref sig .tc := ⟨.hbm, 165, rfl⟩
abbrev main_call0_v5 : Ref sig .tc := ⟨.hbm, 166, rfl⟩
abbrev main_v126 : Ref sig .tc := ⟨.hbm, 167, rfl⟩
abbrev main_v127 : Ref sig .tc := ⟨.hbm, 168, rfl⟩
abbrev main_cst_24 : Ref sig .tc := ⟨.hbm, 169, rfl⟩
abbrev main_call1_v0 : Ref sig .tc := ⟨.hbm, 170, rfl⟩
abbrev main_call1_v1 : Ref sig .tc := ⟨.hbm, 171, rfl⟩
abbrev main_call1_v2 : Ref sig .tc := ⟨.hbm, 172, rfl⟩
abbrev main_v128 : Ref sig .tc := ⟨.hbm, 173, rfl⟩
abbrev main_cst_25 : Ref sig .tc := ⟨.hbm, 174, rfl⟩
abbrev main_v129 : Ref sig .tc := ⟨.hbm, 175, rfl⟩
abbrev main_cst_26 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_27 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩

abbrev nD : Nat := 1
abbrev τ : Topo := Topo.v7x

variable {F : FTy → Type} [FloatOps F]
-- ==== Proof.Finite.lean ====
module

public import proofs.«01_k».proof.Pre_finite_args
public import Idealize.ShloMosaic.Lib.ReduceAll
public import Idealize.ShloMosaic.PureOps.Ideal.Laws

@[expose] public section

noncomputable section

/-!
The precondition says that five of the arguments hold reals.
-/

namespace Cert.Pre_finite_args

open Idealize.ShloMosaic Facts

theorem cinf : Ideal.ofBits .f32 0x7F800000#32 = ⊤ := by
  simp [Ideal.ofBits, Ideal.ieee]

/-- An extended real less than infinity in absolute value is a real. -/
theorem real_of (a : EReal) (h : max a (-a) < ⊤) : a = ((a.toReal : ℝ) : EReal) := by
  refine (EReal.coe_toReal ?_ ?_).symm
  · rintro rfl; simp at h
  · rintro rfl; simp at h

/-- One argument's part of the precondition. -/
theorem real_of_all {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant (F := Ideal) S_ .f32 0x7F800000#32))) (constantI S_ 1 1#1) hr hu j = 1#1)
    (i : s.Idx) : a i = (((a i : EReal).toReal : ℝ) : EReal) := by
  have h := Host.reduce_andi_eq_one _ _ hr hu j e i (funext fun k => k.elim0)
  refine real_of _ ?_
  have h' : BitVec.ofBool (decide (max (a i : EReal) (-(a i : EReal)) < Ideal.ofBits .f32 0x7F800000#32)) = 1#1 := h
  rw [cinf] at h'
  by_contra hn
  simp [hn] at h'

variable [Facts]

/-- The precondition, read. -/
theorem reals (a0 : FVec Ideal S1x2048x768 .f32) (a1 a2 a3 a4 : FVec Ideal S768x768 .f32) (a5 a6 : FVec Ideal S4x64 .f32)
    (h : fn (F := Ideal) a0 a1 a2 a3 a4 a5 a6 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a5 i = (((a5 i : EReal).toReal : ℝ) : EReal))
      ∧ (∀ i, a6 i = (((a6 i : EReal).toReal : ℝ) : EReal)) := by
  let j : S_.Idx := fun k => k.elim0
  have e := congrFun h j
  unfold fn fn_part1 at e
  obtain ⟨e, e6⟩ := IntOp.andi_eq_one.1 e
  obtain ⟨e, e5⟩ := IntOp.andi_eq_one.1 e
  obtain ⟨e, e2⟩ := IntOp.andi_eq_one.1 e
  obtain ⟨e, e1⟩ := IntOp.andi_eq_one.1 e
  obtain ⟨-, e0⟩ := IntOp.andi_eq_one.1 e
  exact ⟨real_of_all a0 _ _ _ j e0, real_of_all a1 _ _ _ j e1, real_of_all a2 _ _ _ j e2, real_of_all a5 _ _ _ j e5,
    real_of_all a6 _ _ _ j e6⟩

end Cert.Pre_finite_args
end
-- ==== Proof.KRun.lean ====
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- The whole run: the result array ends at the last boundary's contents, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = W7 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v0 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Val
end
-- ==== Proof.Math.lean ====
module

public import Idealize.ShloMosaic.Lib.Pointwise

@[expose] public section

set_option maxRecDepth 16384

noncomputable section

/-!
The attention both programs compute, on real digits and extended-real values, and the identities that join the two
ways of writing it: the kernel's weight is a power of two of one quotient, its softmax divides once per row.
-/

namespace Cert.Lcp

open Idealize.ShloMosaic

/-! ### The kernel's weight -/

/-- One plus two to the larger of the two one-sided distances: the reciprocal of a level's match. -/
def lev (a b c : EReal) : EReal := 1 + Ideal.exp2 (max (a - b) (c - a))

/-- Two to the soft common prefix length, over the common denominator of the four levels. -/
def kw (a b c : Fin 4 → EReal) : EReal :=
  Ideal.exp2
    ((1 + lev (a 3) (b 3) (c 3) + lev (a 3) (b 3) (c 3) * lev (a 2) (b 2) (c 2)
        + lev (a 3) (b 3) (c 3) * lev (a 2) (b 2) (c 2) * lev (a 1) (b 1) (c 1))
      * Ideal.div 1 (lev (a 0) (b 0) (c 0) * (lev (a 3) (b 3) (c 3) * lev (a 2) (b 2) (c 2) * lev (a 1) (b 1) (c 1))))

/-- A level's match: a sigmoid of how far two digits are apart. -/
def mm (a b : ℝ) : ℝ := (1 + Real.exp (-(32 * (1 / 2 - |a - b|))))⁻¹

/-- The soft common prefix length. -/
def lcp (a b : Fin 4 → ℝ) : ℝ :=
  mm (a 0) (b 0) + mm (a 0) (b 0) * mm (a 1) (b 1) + mm (a 0) (b 0) * mm (a 1) (b 1) * mm (a 2) (b 2)
    + mm (a 0) (b 0) * mm (a 1) (b 1) * mm (a 2) (b 2) * mm (a 3) (b 3)

/-- The attention weight before normalisation. -/
def wt (a b : Fin 4 → ℝ) : ℝ := Real.exp (Real.log 2 * lcp a b)

theorem wt_pos (a b : Fin 4 → ℝ) : 0 < wt a b := Real.exp_pos _

theorem log2_pos : 0 < Real.log 2 := Real.log_pos (by norm_num)

theorem mm_pos (a b : ℝ) : 0 < mm a b := by unfold mm; positivity

theorem lev_coe (a b : ℝ) :
    lev ((a * (32 * (Real.log 2)⁻¹) : ℝ) : EReal) ((b * (32 * (Real.log 2)⁻¹) + 16 * (Real.log 2)⁻¹ : ℝ) : EReal)
        ((b * (32 * (Real.log 2)⁻¹) - 16 * (Real.log 2)⁻¹ : ℝ) : EReal)
      = (((mm a b)⁻¹ : ℝ) : EReal) := by
  have h0 : Real.log 2 ≠ 0 := log2_pos.ne'
  have hm : max (a * (32 * (Real.log 2)⁻¹) - (b * (32 * (Real.log 2)⁻¹) + 16 * (Real.log 2)⁻¹))
      (b * (32 * (Real.log 2)⁻¹) - 16 * (Real.log 2)⁻¹ - a * (32 * (Real.log 2)⁻¹))
      = (32 * |a - b| - 16) * (Real.log 2)⁻¹ := by
    have hl : 0 < (Real.log 2)⁻¹ := inv_pos.mpr log2_pos
    rcases le_total a b with h | h
    · rw [abs_of_nonpos (by linarith), max_eq_right]
      · ring
      · nlinarith [mul_le_mul_of_nonneg_right h hl.le]
    · rw [abs_of_nonneg (by linarith), max_eq_left]
      · ring
      · nlinarith [mul_le_mul_of_nonneg_right h hl.le]
  have hp : Real.rpow 2 ((32 * |a - b| - 16) * (Real.log 2)⁻¹) = Real.exp (32 * |a - b| - 16) := by
    change (2 : ℝ) ^ ((32 * |a - b| - 16) * (Real.log 2)⁻¹) = _
    rw [Real.rpow_def_of_pos (by norm_num)]
    congr 1
    field_simp
  unfold lev
  rw [← EReal.coe_sub, ← EReal.coe_sub, ← EReal.coe_strictMono.monotone.map_max, hm, Ideal.exp2_coe, hp, ← EReal.coe_one,
    ← EReal.coe_add]
  unfold mm
  rw [inv_inv]
  congr 4
  ring

theorem kw_coe (a b : Fin 4 → ℝ) :
    kw (fun l => ((a l * (32 * (Real.log 2)⁻¹) : ℝ) : EReal))
        (fun l => ((b l * (32 * (Real.log 2)⁻¹) + 16 * (Real.log 2)⁻¹ : ℝ) : EReal))
        (fun l => ((b l * (32 * (Real.log 2)⁻¹) - 16 * (Real.log 2)⁻¹ : ℝ) : EReal))
      = ((wt a b : ℝ) : EReal) := by
  have h0 := (mm_pos (a 0) (b 0)).ne'
  have h1 := (mm_pos (a 1) (b 1)).ne'
  have h2 := (mm_pos (a 2) (b 2)).ne'
  have h3 := (mm_pos (a 3) (b 3)).ne'
  unfold kw
  simp only [lev_coe]
  rw [← EReal.coe_mul, ← EReal.coe_mul, ← EReal.coe_mul, Ideal.div_coe (by positivity), one_mul, ← EReal.coe_one,
    ← EReal.coe_add, ← EReal.coe_add, ← EReal.coe_add, ← EReal.coe_mul, Ideal.exp2_coe]
  congr 1
  change (2 : ℝ) ^ (_ : ℝ) = _
  rw [Real.rpow_def_of_pos (by norm_num)]
  unfold wt lcp
  congr 2
  field_simp
  ring

/-! ### Sums of extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A function on the first 2048 numbers, zero past them. -/
def ext (f : Fin 2048 → EReal) (n : ℕ) : EReal := if h : n < 2048 then f ⟨n, h⟩ else 0

theorem ext_of (f : Fin 2048 → EReal) {n : ℕ} (h : n < 2048) : ext f n = f ⟨n, h⟩ := dif_pos h

/-- The sum over the keys of the first `k` blocks. -/
def pre (f : Fin 2048 → EReal) (k : ℕ) : EReal := ∑ n ∈ Finset.range (256 * k), ext f n

theorem pre_zero (f : Fin 2048 → EReal) : pre f 0 = 0 := by simp [pre]

theorem pre_succ (f : Fin 2048 → EReal) {k : ℕ} (hk : k < 8) :
    pre f (k + 1) = pre f k + ∑ kk : Fin 256, f ⟨256 * k + kk, by omega⟩ := by
  unfold pre
  rw [Nat.mul_succ, Finset.sum_range_add, ← Fin.sum_univ_eq_sum_range (fun x => ext f (256 * k + x)) 256]
  congr 1
  exact Finset.sum_congr rfl fun kk _ => ext_of f _

theorem ext_congr {f g : Fin 2048 → EReal} {m : ℕ} (h : ∀ n : Fin 2048, n.val < m → f n = g n) :
    ∀ n ∈ Finset.range m, ext f n = ext g n := by
  intro n hn
  unfold ext
  split
  · exact h _ (Finset.mem_range.mp hn)
  · rfl

/-- The earlier blocks whole and the diagonal block masked make the causal sum. -/
theorem pre_diag (f : Fin 2048 → EReal) (i : Fin 8) (r : Fin 256) :
    pre f i + ∑ kk : Fin 256, (if kk.val ≤ r.val then f ⟨256 * i.val + kk.val, by omega⟩ else 0)
      = ∑ s : Fin 2048, if s.val ≤ 256 * i.val + r.val then f s else 0 := by
  have h1 : pre f i = pre (fun s => if s.val ≤ 256 * i.val + r.val then f s else 0) i := by
    unfold pre
    refine Finset.sum_congr rfl (ext_congr fun n hn => ?_)
    rw [if_pos (by omega)]
  have h2 : (∑ kk : Fin 256, (if kk.val ≤ r.val then f ⟨256 * i.val + kk.val, by omega⟩ else 0))
      = ∑ kk : Fin 256, (fun s : Fin 2048 => if s.val ≤ 256 * i.val + r.val then f s else 0)
          ⟨256 * i.val + kk.val, by omega⟩ := by
    refine Finset.sum_congr rfl fun kk _ => ?_
    simp only [Nat.add_le_add_iff_left]
  rw [h1, h2, ← pre_succ _ i.isLt]
  unfold pre
  have hle : 256 * (i.val + 1) ≤ 2048 := by omega
  have hz : ∀ n ∈ Finset.range 2048, n ∉ Finset.range (256 * (i.val + 1)) →
      ext (fun s : Fin 2048 => if s.val ≤ 256 * i.val + r.val then f s else 0) n = 0 := by
    intro n hn hn'
    rw [Finset.mem_range] at hn hn'
    rw [ext_of _ hn]
    exact if_neg (by simp only; omega)
  rw [Finset.sum_subset (Finset.range_subset_range.mpr hle) hz,
    ← Fin.sum_univ_eq_sum_range (ext fun s : Fin 2048 => if s.val ≤ 256 * i.val + r.val then f s else 0) 2048]
  exact Finset.sum_congr rfl fun s _ => ext_of _ s.isLt

/-! ### One row of attention -/

/-- The weights' sum up to the row's own position. -/
def zz (w : Fin 2048 → ℝ) (t : ℕ) : ℝ := ∑ s : Fin 2048, if s.val ≤ t then w s else 0

/-- The normalised weight. -/
def pp (w : Fin 2048 → ℝ) (t : ℕ) (s : Fin 2048) : ℝ := if s.val ≤ t then w s / zz w t else 0

theorem zz_pos {w : Fin 2048 → ℝ} (hw : ∀ s, 0 < w s) (t : ℕ) : 0 < zz w t := by
  unfold zz
  refine Finset.sum_pos' (fun s _ => ?_) ⟨0, Finset.mem_univ _, ?_⟩
  · split
    · exact (hw s).le
    · exact le_rfl
  · simpa using hw 0

/-- The causal sums' quotient is the sum under normalised weights. -/
theorem quot_row {w : Fin 2048 → ℝ} (hw : ∀ s, 0 < w s) (v : Fin 2048 → EReal) (t : ℕ) :
    (∑ s : Fin 2048, if s.val ≤ t then (w s : EReal) * v s else 0)
        * Ideal.div 1 (∑ s : Fin 2048, if s.val ≤ t then (w s : EReal) * 1 else 0)
      = ∑ s : Fin 2048, (pp w t s : EReal) * v s := by
  have hz : (∑ s : Fin 2048, if s.val ≤ t then (w s : EReal) * 1 else 0) = ((zz w t : ℝ) : EReal) := by
    unfold zz
    rw [coe_sum]
    refine Finset.sum_congr rfl fun s _ => ?_
    split <;> simp
  have hp := zz_pos hw t
  rw [hz, Ideal.div_coe hp.ne', one_mul, sum_mul_coe _ _ (by positivity)]
  refine Finset.sum_congr rfl fun s _ => ?_
  unfold pp
  split
  · rw [mul_right_comm, ← EReal.coe_mul, mul_one_div]
  · simp

/-- A softmax of real scores, masked by minus infinity and shifted by any real, is the same normalised weight. -/
theorem softmax_row (w : Fin 2048 → ℝ) (hw : ∀ s, 0 < w s) (t : ℕ) (M : ℝ) (s : Fin 2048) :
    Ideal.div (Ideal.exp ((if s.val ≤ t then ((Real.log (w s) : ℝ) : EReal) else ⊥) - (M : EReal)))
        (∑ s' : Fin 2048, Ideal.exp ((if s'.val ≤ t then ((Real.log (w s') : ℝ) : EReal) else ⊥) - (M : EReal)))
      = (pp w t s : EReal) := by
  have he : ∀ s : Fin 2048, Ideal.exp ((if s.val ≤ t then ((Real.log (w s) : ℝ) : EReal) else ⊥) - (M : EReal))
      = (((if s.val ≤ t then w s else 0) * Real.exp (-M) : ℝ) : EReal) := by
    intro s
    split
    · rw [← EReal.coe_sub, Ideal.exp_coe, sub_eq_add_neg, Real.exp_add, Real.exp_log (hw s)]
    · rw [EReal.bot_sub]
      simp
  have hp := zz_pos hw t
  have hs : (∑ s' : Fin 2048, (((if s'.val ≤ t then w s' else 0) * Real.exp (-M) : ℝ) : EReal))
      = ((zz w t * Real.exp (-M) : ℝ) : EReal) := by
    rw [← coe_sum, ← Finset.sum_mul]
    rfl
  simp only [he, hs]
  have hM := Real.exp_pos (-M)
  rw [Ideal.div_coe (by positivity), ← EReal.coe_mul]
  unfold pp
  by_cases h : s.val ≤ t
  · rw [if_pos h, if_pos h, EReal.coe_eq_coe_iff]
    generalize zz w t = z at hp ⊢
    generalize Real.exp (-M) = e at hM ⊢
    field_simp
  · rw [if_neg h, if_neg h, zero_mul, zero_mul]

/-! ### The causal mask -/

/-- The mask's comparison of two positions below `2 ^ 31`. -/
theorem sge_of (a b : ℕ) (ha : a < 2 ^ 31) (hb : b < 2 ^ 31) :
    IntOp.cmpi .sge (IntOp.addi (BitVec.ofNat 32 a) 0#32) (BitVec.ofNat 32 b) = BitVec.ofBool (decide (b ≤ a)) := by
  have h1 : (BitVec.ofNat 32 a).toInt = a := by
    rw [BitVec.toInt_eq_toNat_of_lt] <;> rw [BitVec.toNat_ofNat] <;> omega
  have h2 : (BitVec.ofNat 32 b).toInt = b := by
    rw [BitVec.toInt_eq_toNat_of_lt] <;> rw [BitVec.toNat_ofNat] <;> omega
  simp only [IntOp.cmpi, IntOp.addi, BitVec.add_zero, BitVec.sle_eq_decide, h1, h2, Int.ofNat_le]

/-- A choice by a comparison's bit. -/
theorem sel_of (p : Prop) [Decidable p] (a b : EReal) : Scalar.select (BitVec.ofBool (decide p)) a b = if p then a else b := by
  by_cases h : p <;> simp [Scalar.select, h]

/-! ### The specification -/

/-- The position of lane `d` of head `h` among the 768 columns. -/
def hd (h : Fin 12) (d : Fin 64) : Fin 768 := ⟨64 * h.val + d.val, by omega⟩

section
variable (x : Fin 2048 → Fin 768 → ℝ) (W : Fin 768 → Fin 768 → ℝ) (D : Fin 4 → Fin 64 → ℝ)

/-- A position's digits, before the sigmoid: its head's projection against the digit rows. -/
def logit (h : Fin 12) (t : Fin 2048) (l : Fin 4) : ℝ := ∑ d : Fin 64, (∑ k : Fin 768, x t k * W (hd h d) k) * D l d

/-- A position's digits. -/
def dig (h : Fin 12) (t : Fin 2048) (l : Fin 4) : ℝ := (1 + Real.exp (-logit x W D h t l))⁻¹

/-- The same product associated the other way. -/
theorem logit_assoc (h : Fin 12) (t : Fin 2048) (l : Fin 4) :
    ∑ k : Fin 768, x t k * (∑ d : Fin 64, D l d * W (hd h d) k) = logit x W D h t l := by
  unfold logit
  simp only [Finset.mul_sum, Finset.sum_mul]
  rw [Finset.sum_comm]
  exact Finset.sum_congr rfl fun d _ => Finset.sum_congr rfl fun k _ => by ring

end

section
variable (x : Fin 2048 → Fin 768 → ℝ) (Wq Wk : Fin 768 → Fin 768 → ℝ) (Dq Dk : Fin 4 → Fin 64 → ℝ)
variable (Wv Wo : Fin 768 → Fin 768 → EReal)

/-- The weight of key `s` for query `t`. -/
def wts (h : Fin 12) (t s : Fin 2048) : ℝ := wt (dig x Wq Dq h t) (dig x Wk Dk h s)

/-- A position's values. -/
def vv (h : Fin 12) (s : Fin 2048) (c : Fin 64) : EReal := ∑ k : Fin 768, (x s k : EReal) * Wv (hd h c) k

/-- A head's output. -/
def oo (h : Fin 12) (t : Fin 2048) (c : Fin 64) : EReal :=
  ∑ s : Fin 2048, (pp (wts x Wq Wk Dq Dk h t) t.val s : EReal) * vv x Wv h s c

/-- The whole output: the heads side by side, projected. -/
def yy (t : Fin 2048) (n : Fin 768) : EReal :=
  ∑ p : Fin 768, oo x Wq Wk Dq Dk Wv ⟨p.val / 64, by omega⟩ t ⟨p.val % 64, by omega⟩ * Wo n p

end

end Cert.Lcp
end
-- ==== Proof.Reg.lean ====
module

public import proofs.«01_k».proof.Proof.KRun
public import proofs.«01_k».proof.Proof.Math
public import Idealize.ShloMosaic.Lib.Pipeline.ValueKit

@[expose] public section

set_option maxRecDepth 16384

noncomputable section

/-!
The digit program's three output arrays, and the value program's one, each element as a formula.
-/

namespace Cert.KernelIdeal.Val

open Cert.KernelIdeal Cert.KernelIdeal.Gen Idealize.ShloMosaic Idealize.ShloMosaic.TcCoe Idealize.SL.Sem
open Facts

/-- A head's scaled digit of a position. -/
def digV (x : FVec Ideal S2048x768 .f32) (w : FVec Ideal S768x48 .f32) (h : Fin 12) (t : Fin 2048) (l : Fin 4) : EReal :=
  Ideal.logistic (∑ k : Fin 768, x (ix2 t k) * w (ix2 k ⟨4 * h.val + l.val, by omega⟩)) * ((32 * (Real.log 2)⁻¹ : ℝ) : EReal)

theorem digV_of (x : FVec Ideal S2048x768 .f32) (w : FVec Ideal S768x48 .f32) (h : Fin 12) (t : Fin 2048) (l : Fin 4)
    (t' : Fin 2048) (p : Fin 48) (ht : t.val = t'.val) (hp : p.val = 4 * h.val + l.val) :
    Ideal.logistic (∑ k : Fin 768, x (ix2 t' k) * w (ix2 k p)) * Named.named (F := Ideal) (φ := .f32) κ "scale" 0x4238AA3B#32 = digV x w h t l := by
  obtain rfl : t = t' := Fin.ext ht
  rw [show p = (⟨4 * h.val + l.val, by omega⟩ : Fin 48) from Fin.ext hp]
  rfl

theorem out0_3_apply (x0 : FVec Ideal S2048x768 .f32) (x1 x2 : FVec Ideal S768x48 .f32) (y : S12x2048x4.Idx) :
    (out0_3 (F := Ideal) x0 x1 x2) y = digV x0 x1 (y 0) (y 1) (y 2) := by
  unfold out0_3
  canon_tiles x h
  all_goals
    unfold_payloads
    pointwise
    refine digV_of _ _ _ _ _ _ _ h1 ?_
    simp only [h0, h2]
    omega

theorem out0_4_apply (x0 : FVec Ideal S2048x768 .f32) (x1 x2 : FVec Ideal S768x48 .f32) (y : S12x4x2048.Idx) :
    (out0_4 (F := Ideal) x0 x1 x2) y = digV x0 x2 (y 0) (y 2) (y 1) + ((16 * (Real.log 2)⁻¹ : ℝ) : EReal) := by
  unfold out0_4
  canon_tiles x h
  all_goals
    unfold_payloads
    pointwise
    refine congrArg (· + ((16 * (Real.log 2)⁻¹ : ℝ) : EReal)) (digV_of _ _ _ _ _ _ _ h2 ?_)
    simp only [h0, h1]
    omega

theorem out0_5_apply (x0 : FVec Ideal S2048x768 .f32) (x1 x2 : FVec Ideal S768x48 .f32) (y : S12x4x2048.Idx) :
    (out0_5 (F := Ideal) x0 x1 x2) y = digV x0 x2 (y 0) (y 2) (y 1) - ((16 * (Real.log 2)⁻¹ : ℝ) : EReal) := by
  unfold out0_5
  canon_tiles x h
  all_goals
    unfold_payloads
    pointwise
    refine congrArg (· - ((16 * (Real.log 2)⁻¹ : ℝ) : EReal)) (digV_of _ _ _ _ _ _ _ h2 ?_)
    simp only [h0, h1]
    omega

/-- A head's value vector of a position, then a one, then zeros. -/
def valV (x : FVec Ideal S2048x768 .f32) (w : Fin 768 → Fin 64 → EReal) (t : Fin 2048) (c : Fin 128) : EReal :=
  if h : c.val < 64 then ∑ k : Fin 768, x (ix2 t k) * w k ⟨c.val, h⟩ else if c.val - 64 < 1 then 1 else 0

theorem out1_2_apply (x0 : FVec Ideal S2048x768 .f32) (x1 : FVec Ideal S1x768x64 .f32) (y : S1x2048x128.Idx) :
    (out1_2 (F := Ideal) x0 x1) y = valV x0 (fun k d => x1 (ix3 0 k d)) (y 1) (y 2) := by
  unfold out1_2
  canon_tiles x h
  all_goals
    unfold_payloads
    pointwise
    rw [show y 1 = x 1 from Fin.ext h1, show y 2 = x 2 from Fin.ext h2]
    rfl

end Cert.KernelIdeal.Val
end
-- ==== Proof.Head.lean ====
module

public import proofs.«01_k».proof.Proof.Gen.KernelIdeal.Skeleton
public import proofs.«01_k».proof.Proof.Math
public import Idealize.ShloMosaic.Lib.Pointwise
public import Idealize.ShloMosaic.Lib.Pipeline.ValueKit

@[expose] public section

set_option maxRecDepth 16384

noncomputable section

/-!
One head of one block of 256 queries, as functions of the blocks a program holds: what a block of keys adds, what the
diagonal block and the quotient make of the sums, and the loop over the earlier blocks.
-/

namespace Cert.KernelIdeal.Val

open Cert.KernelIdeal Cert.KernelIdeal.Gen Idealize.ShloMosaic Idealize.SL.Sem Cert.Lcp

/-- One block of keys added to a head's running sums. -/
def stepV (v0 : Vec Ideal S1x256x4 .f32) (v : Vec Ideal S1x256x128 .f32) (bh bl : Vec Ideal S1x4x256 .f32)
    (acc : FVec Ideal S256x128 .f32) : FVec Ideal S256x128 .f32 :=
  k2_pay176 acc (k2_pay2 v) (k2_pay5 (k2_pay171 v0) (Scalar.ofBits .f32 0x3F800000#32) bh bl)
    (k2_pay6 (k2_pay172 v0) (Scalar.ofBits .f32 0x3F800000#32) bh bl)
    (k2_pay7 (k2_pay173 v0) (Scalar.ofBits .f32 0x3F800000#32) bh bl) (k2_pay8 (k2_pay174 v0) bh bl)

/-- The diagonal block added, and the values' sums divided by the weights' sum. -/
def finV (v0 : Vec Ideal S1x256x4 .f32) (v : Vec Ideal S1x256x128 .f32) (bh bl : Vec Ideal S1x4x256 .f32)
    (tri : Vec Ideal S256x256 .f32) (acc : FVec Ideal S256x128 .f32) : FVec Ideal S256x64 .f32 :=
  mulf (k2_pay183 (k2_pay172 v0) (k2_pay173 v0) (k2_pay174 v0) acc (k2_pay178 v) (k2_pay179 bh) (k2_pay180 bl)
      (k2_pay181 v0 bh bl) tri)
    (k2_pay184 (k2_pay172 v0) (k2_pay173 v0) (k2_pay174 v0) acc (k2_pay178 v) (k2_pay179 bh) (k2_pay180 bl)
      (k2_pay181 v0 bh bl) tri)

theorem stepV_apply (v0 : Vec Ideal S1x256x4 .f32) (v : Vec Ideal S1x256x128 .f32) (bh bl : Vec Ideal S1x4x256 .f32)
    (acc : FVec Ideal S256x128 .f32) (r : Fin 256) (c : Fin 128) :
    stepV v0 v bh bl acc (ix2 r c) = acc (ix2 r c)
      + ∑ kk : Fin 256, kw (fun l => v0 (ix3 0 r l)) (fun l => bh (ix3 0 l kk)) (fun l => bl (ix3 0 l kk)) * v (ix3 0 kk c) := by
  unfold stepV
  unfold_payloads
  pointwise
  rfl

theorem finV_apply (v0 : Vec Ideal S1x256x4 .f32) (v : Vec Ideal S1x256x128 .f32) (bh bl : Vec Ideal S1x4x256 .f32)
    (tri : Vec Ideal S256x256 .f32) (acc : FVec Ideal S256x128 .f32) (r : Fin 256) (c : Fin 64) :
    finV v0 v bh bl tri acc (ix2 r c)
      = (acc (ix2 r ⟨c.val, by omega⟩)
          + ∑ kk : Fin 256, kw (fun l => v0 (ix3 0 r l)) (fun l => bh (ix3 0 l kk)) (fun l => bl (ix3 0 l kk))
              * tri (ix2 r kk) * v (ix3 0 kk ⟨c.val, by omega⟩))
        * Ideal.div 1 (acc (ix2 r 64)
          + ∑ kk : Fin 256, kw (fun l => v0 (ix3 0 r l)) (fun l => bh (ix3 0 l kk)) (fun l => bl (ix3 0 l kk))
              * tri (ix2 r kk) * v (ix3 0 kk 64)) := by
  unfold finV
  unfold_payloads
  pointwise
  rfl

theorem zeroV_apply (j : S256x128.Idx) : k2_pay175 (F := Ideal) j = 0 := by
  unfold k2_pay175
  pointwise

/-! ### The blocks -/

/-- A head's query digits. -/
def aqb (x : FVec Ideal S12x256x4 .f32) (h : Fin 12) : Vec Ideal S1x256x4 .f32 := fun j => x (ix3 h (j 1) (j 2))

/-- The values of a head's `k`-th block of keys. -/
def vbl (x : FVec Ideal S12x2048x128 .f32) (h : Fin 12) (k : Fin 8) : Vec Ideal S1x256x128 .f32 :=
  fun j => x (ix3 h (⟨256 * k.val + (j 1).val, by have : (j 1).val < 256 := (j 1).isLt; omega⟩ : Fin 2048) (j 2))

/-- The shifted key digits of a head's `k`-th block of keys. -/
def bbl (x : FVec Ideal S12x4x2048 .f32) (h : Fin 12) (k : Fin 8) : Vec Ideal S1x4x256 .f32 :=
  fun j => x (ix3 h (j 1) (⟨256 * k.val + (j 2).val, by have : (j 2).val < 256 := (j 2).isLt; omega⟩ : Fin 2048))

theorem read_aqb {arg : Memref sig .tc .vmem S12x256x4 .f32} (ha : arg.IsWhole) (x : FVec Ideal S12x256x4 .f32)
    (h : Fin 12) {off : Fin 3 → ℕ} (inb) (ho : off = ![h.val, 0, 0]) :
    View.readAt (Elt Ideal) arg.view (Rect.unit (s := S12x256x4) off S1x256x4.size inb).toLoadRect (ha.unread x) = aqb x h := by
  subst ho
  rw [View.readAt_eq_ld, ha.read_unread]
  funext j
  refine congrArg x (funext fun d => Fin.ext ?_)
  have h0 : (j 0).val = 0 := by have : (j 0).val < 1 := (j 0).isLt; omega
  fin_cases d <;> simp [Rect.unit, h0]

theorem read_vbl {arg : Memref sig .tc .vmem S12x2048x128 .f32} (ha : arg.IsWhole) (x : FVec Ideal S12x2048x128 .f32)
    (h : Fin 12) (k : Fin 8) {off : Fin 3 → ℕ} (inb) (ho : off = ![h.val, 256 * k.val, 0]) :
    View.readAt (Elt Ideal) arg.view (Rect.unit (s := S12x2048x128) off S1x256x128.size inb).toLoadRect (ha.unread x)
      = vbl x h k := by
  subst ho
  rw [View.readAt_eq_ld, ha.read_unread]
  funext j
  refine congrArg x (funext fun d => Fin.ext ?_)
  have h0 : (j 0).val = 0 := by have : (j 0).val < 1 := (j 0).isLt; omega
  fin_cases d <;> simp [Rect.unit, h0]

theorem read_bbl {arg : Memref sig .tc .vmem S12x4x2048 .f32} (ha : arg.IsWhole) (x : FVec Ideal S12x4x2048 .f32)
    (h : Fin 12) (k : Fin 8) {off : Fin 3 → ℕ} (inb) (ho : off = ![h.val, 0, 256 * k.val]) :
    View.readAt (Elt Ideal) arg.view (Rect.unit (s := S12x4x2048) off S1x4x256.size inb).toLoadRect (ha.unread x)
      = bbl x h k := by
  subst ho
  rw [View.readAt_eq_ld, ha.read_unread]
  funext j
  refine congrArg x (funext fun d => Fin.ext ?_)
  have h0 : (j 0).val = 0 := by have : (j 0).val < 1 := (j 0).isLt; omega
  fin_cases d <;> simp [Rect.unit, h0]

theorem read_tri {arg : Memref sig .tc .vmem S256x256 .f32} (ha : arg.IsWhole) (x : FVec Ideal S256x256 .f32) (inb) :
    View.readAt (Elt Ideal) arg.view (Rect.unit (s := S256x256) ![0, 0] S256x256.size inb).toLoadRect (ha.unread x) = x := by
  rw [View.readAt_eq_ld, ha.read_unread]
  funext j
  refine congrArg x (funext fun d => Fin.ext ?_)
  fin_cases d <;> simp [Rect.unit]

/-! ### The loop over the earlier blocks -/

section
variable (x0 : FVec Ideal S12x256x4 .f32) (x1 x2 : FVec Ideal S12x4x2048 .f32) (x3 : FVec Ideal S12x2048x128 .f32)
  (x4 : FVec Ideal S256x256 .f32) (h : Fin 12)

/-- A head's running sums before block `k`. -/
def loopV : ℕ → FVec Ideal S256x128 .f32
  | 0 => k2_pay175
  | k + 1 => if hk : k < 8 then
      stepV (aqb x0 h) (vbl x3 h ⟨k, hk⟩) (bbl x1 h ⟨k, hk⟩) (bbl x2 h ⟨k, hk⟩) (loopV k) else loopV k

/-- A head's output for the program at block `i`. -/
def headV (i : Fin 8) : FVec Ideal S256x64 .f32 :=
  finV (aqb x0 h) (vbl x3 h i) (bbl x1 h i) (bbl x2 h i) x4 (loopV x0 x1 x2 x3 h i.val)

theorem iv_toNat : ∀ k : Fin 8, (Scalar.muli (Scf.iv 0#32 1#32 k.val) 256#32).toNat = 256 * k.val := by decide

theorem diag_toNat : ∀ k : Fin 8, (Scalar.muli (BitVec.ofNat 32 k.val) 256#32).toNat = 256 * k.val := by decide

theorem trips_main : ∀ i : grid2.Coords, (k2_t1_loop i).trips = (i 0).val := by
  intro i
  have : ∀ k : Fin 8, Scf.trips 0#32 (Scalar.addi 0#32 (Scalar.muli (Scalar.divsi (Scalar.subi (BitVec.ofNat 32 k.val) 0#32) 1#32) 1#32)) 1#32 = k.val := by
    decide
  exact this (i 0)

theorem trips_rest : ∀ i : grid2.Coords, (k2_t2_loop i).trips = 0 := by
  intro i
  have : ∀ k : Fin 8, Scf.trips (Scalar.addi 0#32 (Scalar.muli (Scalar.divsi (Scalar.subi (BitVec.ofNat 32 k.val) 0#32) 1#32) 1#32))
      (Scalar.addi 0#32 (Scalar.subi (BitVec.ofNat 32 k.val) 0#32)) 1#32 = 0 := by
    decide
  exact this (i 0)

/-- A carried value that steps as `loopV` does ends at it. -/
theorem loopV_of (i : grid2.Coords) (st : ℕ → FVec Ideal S256x128 .f32) (h0 : st 0 = k2_pay175)
    (hs : ∀ (k : Fin (k2_t1_loop i).trips) (hk : k.val < 8), st (k.val + 1)
      = stepV (aqb x0 h) (vbl x3 h ⟨k.val, hk⟩) (bbl x1 h ⟨k.val, hk⟩) (bbl x2 h ⟨k.val, hk⟩) (st k.val)) :
    st (k2_t1_loop i).trips = loopV x0 x1 x2 x3 h (i 0).val := by
  have hi : (i 0).val < 8 := (i 0).isLt
  have key : ∀ n, n ≤ (i 0).val → st n = loopV x0 x1 x2 x3 h n := by
    intro n
    induction n with
    | zero => intro _; exact h0
    | succ n ih =>
      intro hn
      have hn8 : n < 8 := by omega
      rw [hs ⟨n, by rw [trips_main]; omega⟩ hn8, ih (by omega), loopV, dif_pos hn8]
  rw [trips_main]
  exact key _ le_rfl

end

end Cert.KernelIdeal.Val
end
-- ==== Proof.Heads.lean ====
module

public import proofs.«01_k».proof.Proof.Gen.KernelIdeal.Frame
public import proofs.«01_k».proof.Proof.Head

@[expose] public section

set_option maxRecDepth 16384

noncomputable section

/-!
Each of the twelve heads' values in the attention program is `headV` of its number: the loop over the earlier blocks
steps as `loopV`, the loop over the rest makes no trip, the diagonal block and the quotient are `finV`.
-/

namespace Cert.KernelIdeal.Val

open Cert.KernelIdeal Cert.KernelIdeal.Gen Idealize.ShloMosaic Idealize.ShloMosaic.TcCoe Idealize.SL.Sem

variable (c : Dev nD) (i : grid2.Coords)
  (arg1 : Memref sig .tc .vmem S12x256x4 .f32) (harg1 : arg1.IsWhole)
  (arg2 : Memref sig .tc .vmem S12x4x2048 .f32) (harg2 : arg2.IsWhole)
  (arg3 : Memref sig .tc .vmem S12x4x2048 .f32) (harg3 : arg3.IsWhole)
  (arg4 : Memref sig .tc .vmem S12x2048x128 .f32) (harg4 : arg4.IsWhole)
  (arg5 : Memref sig .tc .vmem S256x256 .f32) (harg5 : arg5.IsWhole)
  (arg6 : Memref sig .tc .vmem S768x768 .f32) (harg6 : arg6.IsWhole)
  (arg7 : Memref sig .tc .vmem S256x768 .f32) (harg7 : arg7.IsWhole)
  (x0 : FVec Ideal S12x256x4 .f32) (x1 x2 : FVec Ideal S12x4x2048 .f32) (x3 : FVec Ideal S12x2048x128 .f32)
  (x4 : FVec Ideal S256x256 .f32)

theorem head0 :
    kernelRun2_A.sl.r_10 (F := Ideal) c i arg1 harg1 arg2 harg2 arg3 harg3 arg4 harg4 arg5 harg5 arg6 harg6 arg7 harg7 x0 x1 x2 x3 x4
      = headV x0 x1 x2 x3 x4 0 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_3 (F := Ideal) c i arg1 harg1 arg2 harg2 arg3 harg3 arg4 harg4 arg5 harg5 arg6 harg6 arg7 harg7 x0 x1 x2 x3 = loopV x0 x1 x2 x3 0 (i 0).val := by
    unfold kernelRun2_A.sl.r_3
    rw [show Scf.trips (k2_t2_loop i).lb (k2_t2_loop i).ub (k2_t2_loop i).st = 0 from trips_rest i, st_k2_t2_zero]
    refine loopV_of x0 x1 x2 x3 0 i (st_k2_t1 _ c _ i _ _ _ _ _ _ _ _ _ _ _ _ _ _ _ _ _ _ _ _) rfl fun k hk => ?_
    rw [st_k2_t1_succ, ← read_aqb harg1 x0 0 inb_S12x256x4_S1x256x4_0_0_0 rfl,
      ← read_vbl harg4 x3 0 ⟨k.val, hk⟩ (k2_off1_inb i k) (congrArg (fun n => ![0, n, 0]) (hr k hk)),
      ← read_bbl harg2 x1 0 ⟨k.val, hk⟩ (k2_off2_inb i k) (congrArg (fun n => ![0, 0, n]) (hr k hk)),
      ← read_bbl harg3 x2 0 ⟨k.val, hk⟩ (k2_off2_inb i k) (congrArg (fun n => ![0, 0, n]) (hr k hk))]
    unfold tripR_k2_t1 trip_k2_t1
    rfl
  unfold headV
  rw [← hacc, ← read_aqb harg1 x0 0 inb_S12x256x4_S1x256x4_0_0_0 rfl,
    ← read_vbl harg4 x3 0 (i 0) (k2_off5_inb i) (congrArg (fun n => ![0, n, 0]) (diag_toNat (i 0))),
    ← read_bbl harg2 x1 0 (i 0) (k2_off6_inb i) (congrArg (fun n => ![0, 0, n]) (diag_toNat (i 0))),
    ← read_bbl harg3 x2 0 (i 0) (k2_off6_inb i) (congrArg (fun n => ![0, 0, n]) (diag_toNat (i 0)))]
  unfold kernelRun2_A.sl.r_10 kernelRun2_A.sl.r_8 kernelRun2_A.sl.r_9
  generalize kernelRun2_A.sl.r_3 (F := Ideal) c i arg1 harg1 arg2 harg2 arg3 harg3 arg4 harg4 arg5 harg5 arg6 harg6 arg7 harg7 x0 x1 x2 x3 = acc
  refine Eq.trans ?_ (congrArg (fun t => finV _ _ _ _ t _) (read_tri harg5 x4 inb_S256x256_S256x256_0_0))
  rfl

theorem head1 :
    kernelRun2_A.sl.r_21 (F := Ideal) c i arg1 harg1 arg2 harg2 arg3 harg3 arg4 harg4 arg5 harg5 arg6 harg6 arg7 harg7 x0 x1 x2 x3 x4
      = headV x0 x1 x2 x3 x4 1 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_14 (F := Ideal) c i arg1 harg1 arg2 harg2 arg3 harg3 arg4 harg4 arg5 harg5 arg6 harg6 arg7 harg7 x0 x1 x2 x3 x4 = loopV x0 x1 x2 x3 1 (i 0).val := by
    unfold kernelRun2_A.sl.r_14
    rw [show Scf.trips (k2_t4_loop i).lb (k2_t4_loop i).ub (k2_t4_loop i).st = 0 from trips_rest i, st_k2_t4_zero]
    refine loopV_of x0 x1 x2 x3 1 i (st_k2_t3 _ c _ i _ _ _ _ _ _ _ _ _ _ _ _ _ _ _ _ _ _ _ _ _ _ _) rfl fun k hk => ?_
    rw [st_k2_t3_succ, ← read_aqb harg1 x0 1 inb_S12x256x4_S1x256x4_1_0_0 rfl,
      ← read_vbl harg4 x3 1 ⟨k.val, hk⟩ (k2_off7_inb i k) (congrArg (fun n => ![1, n, 0]) (hr k hk)),
      ← read_bbl harg2 x1 1 ⟨k.val, hk⟩ (k2_off8_inb i k) (congrArg (fun n => ![1, 0, n]) (hr k hk)),
      ← read_bbl harg3 x2 1 ⟨k.val, hk⟩ (k2_off8_inb i k) (congrArg (fun n => ![1, 0, n]) (hr k hk))]
    unfold tripR_k2_t3 trip_k2_t3
    rfl
  unfold headV
  rw [← hacc, ← read_aqb harg1 x0 1 inb_S12x256x4_S1x256x4_1_0_0 rfl,
    ← read_vbl harg4 x3 1 (i 0) (k2_off11_inb i) (congrArg (fun n => ![1, n, 0]) (diag_toNat (i 0))),
    ← read_bbl harg2 x1 1 (i 0) (k2_off12_inb i) (congrArg (fun n => ![1, 0, n]) (diag_toNat (i 0))),
    ← read_bbl harg3 x2 1 (i 0) (k2_off12_inb i) (congrArg (fun n => ![1, 0, n]) (diag_toNat (i 0)))]
  unfold kernelRun2_A.sl.r_21 kernelRun2_A.sl.r_19 kernelRun2_A.sl.r_20
  generalize kernelRun2_A.sl.r_14 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head2 :
    kernelRun2_A.sl.r_32 (F := Ideal) c i arg1 harg1 arg2 harg2 arg3 harg3 arg4 harg4 arg5 harg5 arg6 harg6 arg7 harg7 x0 x1 x2 x3 x4
      = headV x0 x1 x2 x3 x4 2 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_25 (F := Ideal) c i arg1 harg1 arg2 harg2 arg3 harg3 arg4 harg4 arg5 harg5 arg6 harg6 arg7 harg7 x0 x1 x2 x3 x4 = loopV x0 x1 x2 x3 2 (i 0).val := by
    unfold kernelRun2_A.sl.r_25
    rw [show Scf.trips (k2_t6_loop i).lb (k2_t6_loop i).ub (k2_t6_loop i).st = 0 from trips_rest i, st_k2_t6_zero]
    refine loopV_of x0 x1 x2 x3 2 i (st_k2_t5 _ c _ i _ _ _ _ _ _ _ _ _ _ _ _ _ _ _ _ _ _ _ _ _ _ _) rfl fun k hk => ?_
    rw [st_k2_t5_succ, ← read_aqb harg1 x0 2 inb_S12x256x4_S1x256x4_2_0_0 rfl,
      ← read_vbl harg4 x3 2 ⟨k.val, hk⟩ (k2_off13_inb i k) (congrArg (fun n => ![2, n, 0]) (hr k hk)),
      ← read_bbl harg2 x1 2 ⟨k.val, hk⟩ (k2_off14_inb i k) (congrArg (fun n => ![2, 0, n]) (hr k hk)),
      ← read_bbl harg3 x2 2 ⟨k.val, hk⟩ (k2_off14_inb i k) (congrArg (fun n => ![2, 0, n]) (hr k hk))]
    unfold tripR_k2_t5 trip_k2_t5
    rfl
  unfold headV
  rw [← hacc, ← read_aqb harg1 x0 2 inb_S12x256x4_S1x256x4_2_0_0 rfl,
    ← read_vbl harg4 x3 2 (i 0) (k2_off17_inb i) (congrArg (fun n => ![2, n, 0]) (diag_toNat (i 0))),
    ← read_bbl harg2 x1 2 (i 0) (k2_off18_inb i) (congrArg (fun n => ![2, 0, n]) (diag_toNat (i 0))),
    ← read_bbl harg3 x2 2 (i 0) (k2_off18_inb i) (congrArg (fun n => ![2, 0, n]) (diag_toNat (i 0)))]
  unfold kernelRun2_A.sl.r_32 kernelRun2_A.sl.r_30 kernelRun2_A.sl.r_31
  generalize kernelRun2_A.sl.r_25 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head3 :
    kernelRun2_A.sl.r_43 (F := Ideal) c i arg1 harg1 arg2 harg2 arg3 harg3 arg4 harg4 arg5 harg5 arg6 harg6 arg7 harg7 x0 x1 x2 x3 x4
      = headV x0 x1 x2 x3 x4 3 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_36 (F := Ideal) c i arg1 harg1 arg2 harg2 arg3 harg3 arg4 harg4 arg5 harg5 arg6 harg6 arg7 harg7 x0 x1 x2 x3 x4 = loopV x0 x1 x2 x3 3 (i 0).val := by
    unfold kernelRun2_A.sl.r_36
    rw [show Scf.trips (k2_t8_loop i).lb (k2_t8_loop i).ub (k2_t8_loop i).st = 0 from trips_rest i, st_k2_t8_zero]
    refine loopV_of x0 x1 x2 x3 3 i (st_k2_t7 _ c _ i _ _ _ _ _ _ _ _ _ _ _ _ _ _ _ _ _ _ _ _ _ _ _) rfl fun k hk => ?_
    rw [st_k2_t7_succ, ← read_aqb harg1 x0 3 inb_S12x256x4_S1x256x4_3_0_0 rfl,
      ← read_vbl harg4 x3 3 ⟨k.val, hk⟩ (k2_off19_inb i k) (congrArg (fun n => ![3, n, 0]) (hr k hk)),
      ← read_bbl harg2 x1 3 ⟨k.val, hk⟩ (k2_off20_inb i k) (congrArg (fun n => ![3, 0, n]) (hr k hk)),
      ← read_bbl harg3 x2 3 ⟨k.val, hk⟩ (k2_off20_inb i k) (congrArg (fun n => ![3, 0, n]) (hr k hk))]
    unfold tripR_k2_t7 trip_k2_t7
    rfl
  unfold headV
  rw [← hacc, ← read_aqb harg1 x0 3 inb_S12x256x4_S1x256x4_3_0_0 rfl,
    ← read_vbl harg4 x3 3 (i 0) (k2_off23_inb i) (congrArg (fun n => ![3, n, 0]) (diag_toNat (i 0))),
    ← read_bbl harg2 x1 3 (i 0) (k2_off24_inb i) (congrArg (fun n => ![3, 0, n]) (diag_toNat (i 0))),
    ← read_bbl harg3 x2 3 (i 0) (k2_off24_inb i) (congrArg (fun n => ![3, 0, n]) (diag_toNat (i 0)))]
  unfold kernelRun2_A.sl.r_43 kernelRun2_A.sl.r_41 kernelRun2_A.sl.r_42
  generalize kernelRun2_A.sl.r_36 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head4 :
    kernelRun2_A.sl.r_54 (F := Ideal) c i arg1 harg1 arg2 harg2 arg3 harg3 arg4 harg4 arg5 harg5 arg6 harg6 arg7 harg7 x0 x1 x2 x3 x4
      = headV x0 x1 x2 x3 x4 4 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_47 (F := Ideal) c i arg1 harg1 arg2 harg2 arg3 harg3 arg4 harg4 arg5 harg5 arg6 harg6 arg7 harg7 x0 x1 x2 x3 x4 = loopV x0 x1 x2 x3 4 (i 0).val := by
    unfold kernelRun2_A.sl.r_47
    rw [show Scf.trips (k2_t10_loop i).lb (k2_t10_loop i).ub (k2_t10_loop i).st = 0 from trips_rest i, st_k2_t10_zero]
    refine loopV_of x0 x1 x2 x3 4 i (st_k2_t9 _ c _ i _ _ _ _ _ _ _ _ _ _ _ _ _ _ _ _ _ _ _ _ _ _ _) rfl fun k hk => ?_
    rw [st_k2_t9_succ, ← read_aqb harg1 x0 4 inb_S12x256x4_S1x256x4_4_0_0 rfl,
      ← read_vbl harg4 x3 4 ⟨k.val, hk⟩ (k2_off25_inb i k) (congrArg (fun n => ![4, n, 0]) (hr k hk)),
      ← read_bbl harg2 x1 4 ⟨k.val, hk⟩ (k2_off26_inb i k) (congrArg (fun n => ![4, 0, n]) (hr k hk)),
      ← read_bbl harg3 x2 4 ⟨k.val, hk⟩ (k2_off26_inb i k) (congrArg (fun n => ![4, 0, n]) (hr k hk))]
    unfold tripR_k2_t9 trip_k2_t9
    rfl
  unfold headV
  rw [← hacc, ← read_aqb harg1 x0 4 inb_S12x256x4_S1x256x4_4_0_0 rfl,
    ← read_vbl harg4 x3 4 (i 0) (k2_off29_inb i) (congrArg (fun n => ![4, n, 0]) (diag_toNat (i 0))),
    ← read_bbl harg2 x1 4 (i 0) (k2_off30_inb i) (congrArg (fun n => ![4, 0, n]) (diag_toNat (i 0))),
    ← read_bbl harg3 x2 4 (i 0) (k2_off30_inb i) (congrArg (fun n => ![4, 0, n]) (diag_toNat (i 0)))]
  unfold kernelRun2_A.sl.r_54 kernelRun2_A.sl.r_52 kernelRun2_A.sl.r_53
  generalize kernelRun2_A.sl.r_47 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head5 :
    kernelRun2_A.sl.r_65 (F := Ideal) c i arg1 harg1 arg2 harg2 arg3 harg3 arg4 harg4 arg5 harg5 arg6 harg6 arg7 harg7 x0 x1 x2 x3 x4
      = headV x0 x1 x2 x3 x4 5 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_58 (F := Ideal) c i arg1 harg1 arg2 harg2 arg3 harg3 arg4 harg4 arg5 harg5 arg6 harg6 arg7 harg7 x0 x1 x2 x3 x4 = loopV x0 x1 x2 x3 5 (i 0).val := by
    unfold kernelRun2_A.sl.r_58
    rw [show Scf.trips (k2_t12_loop i).lb (k2_t12_loop i).ub (k2_t12_loop i).st = 0 from trips_rest i, st_k2_t12_zero]
    refine loopV_of x0 x1 x2 x3 5 i (st_k2_t11 _ c _ i _ _ _ _ _ _ _ _ _ _ _ _ _ _ _ _ _ _ _ _ _ _ _) rfl fun k hk => ?_
    rw [st_k2_t11_succ, ← read_aqb harg1 x0 5 inb_S12x256x4_S1x256x4_5_0_0 rfl,
      ← read_vbl harg4 x3 5 ⟨k.val, hk⟩ (k2_off31_inb i k) (congrArg (fun n => ![5, n, 0]) (hr k hk)),
      ← read_bbl harg2 x1 5 ⟨k.val, hk⟩ (k2_off32_inb i k) (congrArg (fun n => ![5, 0, n]) (hr k hk)),
      ← read_bbl harg3 x2 5 ⟨k.val, hk⟩ (k2_off32_inb i k) (congrArg (fun n => ![5, 0, n]) (hr k hk))]
    unfold tripR_k2_t11 trip_k2_t11
    rfl
  unfold headV
  rw [← hacc, ← read_aqb harg1 x0 5 inb_S12x256x4_S1x256x4_5_0_0 rfl,
    ← read_vbl harg4 x3 5 (i 0) (k2_off35_inb i) (congrArg (fun n => ![5, n, 0]) (diag_toNat (i 0))),
    ← read_bbl harg2 x1 5 (i 0) (k2_off36_inb i) (congrArg (fun n => ![5, 0, n]) (diag_toNat (i 0))),
    ← read_bbl harg3 x2 5 (i 0) (k2_off36_inb i) (congrArg (fun n => ![5, 0, n]) (diag_toNat (i 0)))]
  unfold kernelRun2_A.sl.r_65 kernelRun2_A.sl.r_63 kernelRun2_A.sl.r_64
  generalize kernelRun2_A.sl.r_58 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head6 :
    kernelRun2_A.sl.r_76 (F := Ideal) c i arg1 harg1 arg2 harg2 arg3 harg3 arg4 harg4 arg5 harg5 arg6 harg6 arg7 harg7 x0 x1 x2 x3 x4
      = headV x0 x1 x2 x3 x4 6 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_69 (F := Ideal) c i arg1 harg1 arg2 harg2 arg3 harg3 arg4 harg4 arg5 harg5 arg6 harg6 arg7 harg7 x0 x1 x2 x3 x4 = loopV x0 x1 x2 x3 6 (i 0).val := by
    unfold kernelRun2_A.sl.r_69
    rw [show Scf.trips (k2_t14_loop i).lb (k2_t14_loop i).ub (k2_t14_loop i).st = 0 from trips_rest i, st_k2_t14_zero]
    refine loopV_of x0 x1 x2 x3 6 i (st_k2_t13 _ c _ i _ _ _ _ _ _ _ _ _ _ _ _ _ _ _ _ _ _ _ _ _ _ _) rfl fun k hk => ?_
    rw [st_k2_t13_succ, ← read_aqb harg1 x0 6 inb_S12x256x4_S1x256x4_6_0_0 rfl,
      ← read_vbl harg4 x3 6 ⟨k.val, hk⟩ (k2_off37_inb i k) (congrArg (fun n => ![6, n, 0]) (hr k hk)),
      ← read_bbl harg2 x1 6 ⟨k.val, hk⟩ (k2_off38_inb i k) (congrArg (fun n => ![6, 0, n]) (hr k hk)),
      ← read_bbl harg3 x2 6 ⟨k.val, hk⟩ (k2_off38_inb i k) (congrArg (fun n => ![6, 0, n]) (hr k hk))]
    unfold tripR_k2_t13 trip_k2_t13
    rfl
  unfold headV
  rw [← hacc, ← read_aqb harg1 x0 6 inb_S12x256x4_S1x256x4_6_0_0 rfl,
    ← read_vbl harg4 x3 6 (i 0) (k2_off41_inb i) (congrArg (fun n => ![6, n, 0]) (diag_toNat (i 0))),
    ← read_bbl harg2 x1 6 (i 0) (k2_off42_inb i) (congrArg (fun n => ![6, 0, n]) (diag_toNat (i 0))),
    ← read_bbl harg3 x2 6 (i 0) (k2_off42_inb i) (congrArg (fun n => ![6, 0, n]) (diag_toNat (i 0)))]
  unfold kernelRun2_A.sl.r_76 kernelRun2_A.sl.r_74 kernelRun2_A.sl.r_75
  generalize kernelRun2_A.sl.r_69 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head7 :
    kernelRun2_A.sl.r_87 (F := Ideal) c i arg1 harg1 arg2 harg2 arg3 harg3 arg4 harg4 arg5 harg5 arg6 harg6 arg7 harg7 x0 x1 x2 x3 x4
      = headV x0 x1 x2 x3 x4 7 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_80 (F := Ideal) c i arg1 harg1 arg2 harg2 arg3 harg3 arg4 harg4 arg5 harg5 arg6 harg6 arg7 harg7 x0 x1 x2 x3 x4 = loopV x0 x1 x2 x3 7 (i 0).val := by
    unfold kernelRun2_A.sl.r_80
    rw [show Scf.trips (k2_t16_loop i).lb (k2_t16_loop i).ub (k2_t16_loop i).st = 0 from trips_rest i, st_k2_t16_zero]
    refine loopV_of x0 x1 x2 x3 7 i (st_k2_t15 _ c _ i _ _ _ _ _ _ _ _ _ _ _ _ _ _ _ _ _ _ _ _ _ _ _) rfl fun k hk => ?_
    rw [st_k2_t15_succ, ← read_aqb harg1 x0 7 inb_S12x256x4_S1x256x4_7_0_0 rfl,
      ← read_vbl harg4 x3 7 ⟨k.val, hk⟩ (k2_off43_inb i k) (congrArg (fun n => ![7, n, 0]) (hr k hk)),
      ← read_bbl harg2 x1 7 ⟨k.val, hk⟩ (k2_off44_inb i k) (congrArg (fun n => ![7, 0, n]) (hr k hk)),
      ← read_bbl harg3 x2 7 ⟨k.val, hk⟩ (k2_off44_inb i k) (congrArg (fun n => ![7, 0, n]) (hr k hk))]
    unfold tripR_k2_t15 trip_k2_t15
    rfl
  unfold headV
  rw [← hacc, ← read_aqb harg1 x0 7 inb_S12x256x4_S1x256x4_7_0_0 rfl,
    ← read_vbl harg4 x3 7 (i 0) (k2_off47_inb i) (congrArg (fun n => ![7, n, 0]) (diag_toNat (i 0))),
    ← read_bbl harg2 x1 7 (i 0) (k2_off48_inb i) (congrArg (fun n => ![7, 0, n]) (diag_toNat (i 0))),
    ← read_bbl harg3 x2 7 (i 0) (k2_off48_inb i) (congrArg (fun n => ![7, 0, n]) (diag_toNat (i 0)))]
  unfold kernelRun2_A.sl.r_87 kernelRun2_A.sl.r_85 kernelRun2_A.sl.r_86
  generalize kernelRun2_A.sl.r_80 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head8 :
    kernelRun2_A.sl.r_98 (F := Ideal) c i arg1 harg1 arg2 harg2 arg3 harg3 arg4 harg4 arg5 harg5 arg6 harg6 arg7 harg7 x0 x1 x2 x3 x4
      = headV x0 x1 x2 x3 x4 8 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_91 (F := Ideal) c i arg1 harg1 arg2 harg2 arg3 harg3 arg4 harg4 arg5 harg5 arg6 harg6 arg7 harg7 x0 x1 x2 x3 x4 = loopV x0 x1 x2 x3 8 (i 0).val := by
    unfold kernelRun2_A.sl.r_91
    rw [show Scf.trips (k2_t18_loop i).lb (k2_t18_loop i).ub (k2_t18_loop i).st = 0 from trips_rest i, st_k2_t18_zero]
    refine loopV_of x0 x1 x2 x3 8 i (st_k2_t17 _ c _ i _ _ _ _ _ _ _ _ _ _ _ _ _ _ _ _ _ _ _ _ _ _ _) rfl fun k hk => ?_
    rw [st_k2_t17_succ, ← read_aqb harg1 x0 8 inb_S12x256x4_S1x256x4_8_0_0 rfl,
      ← read_vbl harg4 x3 8 ⟨k.val, hk⟩ (k2_off49_inb i k) (congrArg (fun n => ![8, n, 0]) (hr k hk)),
      ← read_bbl harg2 x1 8 ⟨k.val, hk⟩ (k2_off50_inb i k) (congrArg (fun n => ![8, 0, n]) (hr k hk)),
      ← read_bbl harg3 x2 8 ⟨k.val, hk⟩ (k2_off50_inb i k) (congrArg (fun n => ![8, 0, n]) (hr k hk))]
    unfold tripR_k2_t17 trip_k2_t17
    rfl
  unfold headV
  rw [← hacc, ← read_aqb harg1 x0 8 inb_S12x256x4_S1x256x4_8_0_0 rfl,
    ← read_vbl harg4 x3 8 (i 0) (k2_off53_inb i) (congrArg (fun n => ![8, n, 0]) (diag_toNat (i 0))),
    ← read_bbl harg2 x1 8 (i 0) (k2_off54_inb i) (congrArg (fun n => ![8, 0, n]) (diag_toNat (i 0))),
    ← read_bbl harg3 x2 8 (i 0) (k2_off54_inb i) (congrArg (fun n => ![8, 0, n]) (diag_toNat (i 0)))]
  unfold kernelRun2_A.sl.r_98 kernelRun2_A.sl.r_96 kernelRun2_A.sl.r_97
  generalize kernelRun2_A.sl.r_91 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head9 :
    kernelRun2_A.sl.r_109 (F := Ideal) c i arg1 harg1 arg2 harg2 arg3 harg3 arg4 harg4 arg5 harg5 arg6 harg6 arg7 harg7 x0 x1 x2 x3 x4
      = headV x0 x1 x2 x3 x4 9 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_102 (F := Ideal) c i arg1 harg1 arg2 harg2 arg3 harg3 arg4 harg4 arg5 harg5 arg6 harg6 arg7 harg7 x0 x1 x2 x3 x4 = loopV x0 x1 x2 x3 9 (i 0).val := by
    unfold kernelRun2_A.sl.r_102
    rw [show Scf.trips (k2_t20_loop i).lb (k2_t20_loop i).ub (k2_t20_loop i).st = 0 from trips_rest i, st_k2_t20_zero]
    refine loopV_of x0 x1 x2 x3 9 i (st_k2_t19 _ c _ i _ _ _ _ _ _ _ _ _ _ _ _ _ _ _ _ _ _ _ _ _ _ _) rfl fun k hk => ?_
    rw [st_k2_t19_succ, ← read_aqb harg1 x0 9 inb_S12x256x4_S1x256x4_9_0_0 rfl,
      ← read_vbl harg4 x3 9 ⟨k.val, hk⟩ (k2_off55_inb i k) (congrArg (fun n => ![9, n, 0]) (hr k hk)),
      ← read_bbl harg2 x1 9 ⟨k.val, hk⟩ (k2_off56_inb i k) (congrArg (fun n => ![9, 0, n]) (hr k hk)),
      ← read_bbl harg3 x2 9 ⟨k.val, hk⟩ (k2_off56_inb i k) (congrArg (fun n => ![9, 0, n]) (hr k hk))]
    unfold tripR_k2_t19 trip_k2_t19
    rfl
  unfold headV
  rw [← hacc, ← read_aqb harg1 x0 9 inb_S12x256x4_S1x256x4_9_0_0 rfl,
    ← read_vbl harg4 x3 9 (i 0) (k2_off59_inb i) (congrArg (fun n => ![9, n, 0]) (diag_toNat (i 0))),
    ← read_bbl harg2 x1 9 (i 0) (k2_off60_inb i) (congrArg (fun n => ![9, 0, n]) (diag_toNat (i 0))),
    ← read_bbl harg3 x2 9 (i 0) (k2_off60_inb i) (congrArg (fun n => ![9, 0, n]) (diag_toNat (i 0)))]
  unfold kernelRun2_A.sl.r_109 kernelRun2_A.sl.r_107 kernelRun2_A.sl.r_108
  generalize kernelRun2_A.sl.r_102 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head10 :
    kernelRun2_A.sl.r_120 (F := Ideal) c i arg1 harg1 arg2 harg2 arg3 harg3 arg4 harg4 arg5 harg5 arg6 harg6 arg7 harg7 x0 x1 x2 x3 x4
      = headV x0 x1 x2 x3 x4 10 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_113 (F := Ideal) c i arg1 harg1 arg2 harg2 arg3 harg3 arg4 harg4 arg5 harg5 arg6 harg6 arg7 harg7 x0 x1 x2 x3 x4 = loopV x0 x1 x2 x3 10 (i 0).val := by
    unfold kernelRun2_A.sl.r_113
    rw [show Scf.trips (k2_t22_loop i).lb (k2_t22_loop i).ub (k2_t22_loop i).st = 0 from trips_rest i, st_k2_t22_zero]
    refine loopV_of x0 x1 x2 x3 10 i (st_k2_t21 _ c _ i _ _ _ _ _ _ _ _ _ _ _ _ _ _ _ _ _ _ _ _ _ _ _) rfl fun k hk => ?_
    rw [st_k2_t21_succ, ← read_aqb harg1 x0 10 inb_S12x256x4_S1x256x4_10_0_0 rfl,
      ← read_vbl harg4 x3 10 ⟨k.val, hk⟩ (k2_off61_inb i k) (congrArg (fun n => ![10, n, 0]) (hr k hk)),
      ← read_bbl harg2 x1 10 ⟨k.val, hk⟩ (k2_off62_inb i k) (congrArg (fun n => ![10, 0, n]) (hr k hk)),
      ← read_bbl harg3 x2 10 ⟨k.val, hk⟩ (k2_off62_inb i k) (congrArg (fun n => ![10, 0, n]) (hr k hk))]
    unfold tripR_k2_t21 trip_k2_t21
    rfl
  unfold headV
  rw [← hacc, ← read_aqb harg1 x0 10 inb_S12x256x4_S1x256x4_10_0_0 rfl,
    ← read_vbl harg4 x3 10 (i 0) (k2_off65_inb i) (congrArg (fun n => ![10, n, 0]) (diag_toNat (i 0))),
    ← read_bbl harg2 x1 10 (i 0) (k2_off66_inb i) (congrArg (fun n => ![10, 0, n]) (diag_toNat (i 0))),
    ← read_bbl harg3 x2 10 (i 0) (k2_off66_inb i) (congrArg (fun n => ![10, 0, n]) (diag_toNat (i 0)))]
  unfold kernelRun2_A.sl.r_120 kernelRun2_A.sl.r_118 kernelRun2_A.sl.r_119
  generalize kernelRun2_A.sl.r_113 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

theorem head11 :
    mulf (kernelRun2_A.sl.r_129 (F := Ideal) c i arg1 harg1 arg2 harg2 arg3 harg3 arg4 harg4 arg5 harg5 arg6 harg6 arg7 harg7 x0 x1 x2 x3 x4) (kernelRun2_A.sl.r_130 (F := Ideal) c i arg1 harg1 arg2 harg2 arg3 harg3 arg4 harg4 arg5 harg5 arg6 harg6 arg7 harg7 x0 x1 x2 x3 x4)
      = headV x0 x1 x2 x3 x4 11 (i 0) := by
  have hr : ∀ k : Fin (k2_t1_loop i).trips, k.val < 8 → (Scalar.muli (Scf.iv 0#32 1#32 k.val) 256#32).toNat = 256 * k.val :=
    fun k hk => iv_toNat ⟨k.val, hk⟩
  have hacc : kernelRun2_A.sl.r_124 (F := Ideal) c i arg1 harg1 arg2 harg2 arg3 harg3 arg4 harg4 arg5 harg5 arg6 harg6 arg7 harg7 x0 x1 x2 x3 x4 = loopV x0 x1 x2 x3 11 (i 0).val := by
    unfold kernelRun2_A.sl.r_124
    rw [show Scf.trips (k2_t24_loop i).lb (k2_t24_loop i).ub (k2_t24_loop i).st = 0 from trips_rest i, st_k2_t24_zero]
    refine loopV_of x0 x1 x2 x3 11 i (st_k2_t23 _ c _ i _ _ _ _ _ _ _ _ _ _ _ _ _ _ _ _ _ _ _ _ _ _ _) rfl fun k hk => ?_
    rw [st_k2_t23_succ, ← read_aqb harg1 x0 11 inb_S12x256x4_S1x256x4_11_0_0 rfl,
      ← read_vbl harg4 x3 11 ⟨k.val, hk⟩ (k2_off67_inb i k) (congrArg (fun n => ![11, n, 0]) (hr k hk)),
      ← read_bbl harg2 x1 11 ⟨k.val, hk⟩ (k2_off68_inb i k) (congrArg (fun n => ![11, 0, n]) (hr k hk)),
      ← read_bbl harg3 x2 11 ⟨k.val, hk⟩ (k2_off68_inb i k) (congrArg (fun n => ![11, 0, n]) (hr k hk))]
    unfold tripR_k2_t23 trip_k2_t23
    rfl
  unfold headV
  rw [← hacc, ← read_aqb harg1 x0 11 inb_S12x256x4_S1x256x4_11_0_0 rfl,
    ← read_vbl harg4 x3 11 (i 0) (k2_off71_inb i) (congrArg (fun n => ![11, n, 0]) (diag_toNat (i 0))),
    ← read_bbl harg2 x1 11 (i 0) (k2_off72_inb i) (congrArg (fun n => ![11, 0, n]) (diag_toNat (i 0))),
    ← read_bbl harg3 x2 11 (i 0) (k2_off72_inb i) (congrArg (fun n => ![11, 0, n]) (diag_toNat (i 0)))]
  unfold kernelRun2_A.sl.r_129 kernelRun2_A.sl.r_130
  generalize kernelRun2_A.sl.r_124 (F := Ideal) c i arg1 harg1 arg2 harg2 arg3 harg3 arg4 harg4 arg5 harg5 arg6 harg6 arg7 harg7 x0 x1 x2 x3 x4 = acc
  refine Eq.trans ?_ (congrArg (fun t => finV _ _ _ _ t _) (read_tri harg5 x4 inb_S256x256_S256x256_0_0))
  rfl

end Cert.KernelIdeal.Val
end
-- ==== Proof.Out2.lean ====
module

public import proofs.«01_k».proof.Proof.Heads

@[expose] public section

set_option maxRecDepth 16384

noncomputable section

/-!
The attention program's output block: the heads' values side by side, projected.
-/

namespace Cert.KernelIdeal.Val

open Cert.KernelIdeal Cert.KernelIdeal.Gen Idealize.ShloMosaic Idealize.ShloMosaic.TcCoe Idealize.SL.Sem
open Facts

theorem dite_of {α : Type} {P : Prop} [Decidable P] {a : P → α} {b : ¬P → α} {v : α} (h1 : ∀ h, a h = v) (h2 : ∀ h, b h = v) :
    (if h : P then a h else b h) = v := by
  split
  · exact h1 _
  · exact h2 _

/-- Twelve blocks of 64 columns side by side, read at a column. -/
theorem cat_apply (H : Fin 12 → FVec Ideal S256x64 .f32) (hc) (r : Fin 256) (p : Fin 768) :
    concatenate S256x768 1 [⟨S256x64, H 0⟩, ⟨S256x64, H 1⟩, ⟨S256x64, H 2⟩, ⟨S256x64, H 3⟩, ⟨S256x64, H 4⟩, ⟨S256x64, H 5⟩,
        ⟨S256x64, H 6⟩, ⟨S256x64, H 7⟩, ⟨S256x64, H 8⟩, ⟨S256x64, H 9⟩, ⟨S256x64, H 10⟩, ⟨S256x64, H 11⟩] hc (ix2 r p)
      = H ⟨p.val / 64, by omega⟩ (ix2 r ⟨p.val % 64, by omega⟩) := by
  have key : ∀ (q : Fin 12) (d : Fin 64), q.val = p.val / 64 → d.val = p.val % 64 →
      H q (ix2 r d) = H ⟨p.val / 64, by omega⟩ (ix2 r ⟨p.val % 64, by omega⟩) := by
    intro q d hq hd
    rw [show q = ⟨p.val / 64, by omega⟩ from Fin.ext hq, show d = ⟨p.val % 64, by omega⟩ from Fin.ext hd]
  have hp := p.isLt
  pointwise
  repeat
    refine dite_of (fun _ => key _ _ (by first | omega | (simp; omega)) (by simp only; omega)) fun _ => ?_
  exact key _ _ (by first | omega | (simp; omega)) (by simp only; omega)

theorem proj_apply (H : Fin 12 → FVec Ideal S256x64 .f32) (a b : FVec Ideal S256x64 .f32) (hab : mulf a b = H 11)
    (W : Vec Ideal S768x768 .f32) (r : Fin 256) (n : Fin 768) :
    k2_pay1 (H 0) (H 1) (H 2) (H 3) (H 4) (H 5) (H 6) (H 7) (H 8) (H 9) (H 10) a b W (ix2 r n)
      = ∑ p : Fin 768, H ⟨p.val / 64, by omega⟩ (ix2 r ⟨p.val % 64, by omega⟩) * W (ix2 p n) := by
  have hcat := cat_apply H
    concatenates_S256x64_S256x64_S256x64_S256x64_S256x64_S256x64_S256x64_S256x64_S256x64_S256x64_S256x64_S256x64_S256x768_d1 r
  unfold k2_pay1
  rw [hab]
  generalize concatenate _ _ _ _ = C at hcat ⊢
  pointwise
  simp only [hcat]

theorem out2_apply (c : Dev nD) (i : grid2.Coords)
    (arg1 : Memref sig .tc .vmem S12x256x4 .f32) (harg1 : arg1.IsWhole)
    (arg2 : Memref sig .tc .vmem S12x4x2048 .f32) (harg2 : arg2.IsWhole)
    (arg3 : Memref sig .tc .vmem S12x4x2048 .f32) (harg3 : arg3.IsWhole)
    (arg4 : Memref sig .tc .vmem S12x2048x128 .f32) (harg4 : arg4.IsWhole)
    (arg5 : Memref sig .tc .vmem S256x256 .f32) (harg5 : arg5.IsWhole)
    (arg6 : Memref sig .tc .vmem S768x768 .f32) (harg6 : arg6.IsWhole)
    (arg7 : Memref sig .tc .vmem S256x768 .f32) (harg7 : arg7.IsWhole)
    (x0 : FVec Ideal S12x256x4 .f32) (x1 x2 : FVec Ideal S12x4x2048 .f32) (x3 : FVec Ideal S12x2048x128 .f32)
    (x4 : FVec Ideal S256x256 .f32) (x5 : FVec Ideal S768x768 .f32) (r : Fin 256) (n : Fin 768) :
    out2_A_6 (F := Ideal) c i arg1 harg1 arg2 harg2 arg3 harg3 arg4 harg4 arg5 harg5 arg6 harg6 arg7 harg7 x0 x1 x2 x3 x4 x5 (ix2 r n)
      = ∑ p : Fin 768, headV x0 x1 x2 x3 x4 ⟨p.val / 64, by omega⟩ (i 0) (ix2 r ⟨p.val % 64, by omega⟩) * x5 (ix2 p n) := by
  have hz : (![0, 0] : Fin 2 → ℕ) = 0 := by funext d; fin_cases d <;> rfl
  unfold out2_A_6
  rw [View.read_writes_eq_canon _ _ _ (cover2_A_6 _ _ _ _ _ _ _ _ _ _ _ _ _ _ _ _ _ _ _ _ _ _)]
  unfold kernelRun2_A
  dsimp only
  rw [View.canon_unit_zero hz, View.readAt_eq_ld, harg6.read_unread, View.ld_unit_zero (S := S768x768) hz,
    head0, head1, head2, head3, head4, head5, head6, head7, head8, head9, head10]
  exact proj_apply (fun h => headV x0 x1 x2 x3 x4 h (i 0)) _ _
    (head11 c i arg1 harg1 arg2 harg2 arg3 harg3 arg4 harg4 arg5 harg5 arg6 harg6 arg7 harg7 x0 x1 x2 x3 x4) x5 r n

end Cert.KernelIdeal.Val
end
-- ==== Proof.Arr.lean ====
module

public import proofs.«01_k».proof.Proof.Reg
public import proofs.«01_k».proof.Proof.Out2

@[expose] public section

set_option maxRecDepth 16384

noncomputable section

/-!
What each launched program leaves in its output arrays, from the arrays it finds.
-/

namespace Cert.KernelIdeal.Val

open Cert.KernelIdeal Cert.KernelIdeal.Gen Idealize.ShloMosaic Idealize.ShloMosaic.TcCoe Idealize.SL.Sem
open Facts

variable (V : (c : Dev nD) → (b : Ref sig .tc) → Buf (Elt Ideal) ((c : Thread nD τ).loc b)) (c : Dev nD)

theorem iblk0_0 (t : Fin cfg0.N) : iblk0 V c 0 t = V c main_call0_v0 := by
  funext j
  have h := (by decide +kernel : ∀ (t : Fin grid0.N) a, (cfg0.win 0).index t a = 0) t
  blk_ext [iblk0, h]

theorem iblk0_1 (t : Fin cfg0.N) : iblk0 V c 1 t = V c main_call0_v4 := by
  funext j
  have h := (by decide +kernel : ∀ (t : Fin grid0.N) a, (cfg0.win 1).index t a = 0) t
  blk_ext [iblk0, h]

theorem iblk0_2 (t : Fin cfg0.N) : iblk0 V c 2 t = V c main_call0_v8 := by
  funext j
  have h := (by decide +kernel : ∀ (t : Fin grid0.N) a, (cfg0.win 2).index t a = 0) t
  blk_ext [iblk0, h]

/-- The first program's first output: the query digits, scaled. -/
theorem arr0_3 (x : FVec Ideal S2048x768 .f32) (hx : V c main_call0_v0 = x)
    (w : FVec Ideal S768x48 .f32) (hw : V c main_call0_v4 = w) :
    (dat0 V c).arrAt 3 cfg0.N = fun j : S12x2048x4.Idx => digV x w (j 0) (j 1) (j 2) := by
  subst hx; subst hw
  refine (dat0 V c).arrAt_eq_of_covers 3 _ (by decide +kernel) fun t hf y => ?_
  blk_simp
  rw [after0_3, out0_3_apply, iblk0_0, iblk0_1]
  have h := (by decide +kernel : ∀ (t : Fin grid0.N) a, (cfg0.win 3).index t a = 0) t
  refine congr (congr (congrArg _ (Fin.ext ?_)) (Fin.ext ?_)) (Fin.ext ?_) <;> blk_simp [h]

/-- The first program's second output: the key digits, scaled, plus a half unit. -/
theorem arr0_4 (x : FVec Ideal S2048x768 .f32) (hx : V c main_call0_v0 = x)
    (w : FVec Ideal S768x48 .f32) (hw : V c main_call0_v8 = w) :
    (dat0 V c).arrAt 4 cfg0.N = fun j : S12x4x2048.Idx => digV x w (j 0) (j 2) (j 1) + ((16 * (Real.log 2)⁻¹ : ℝ) : EReal) := by
  subst hx; subst hw
  refine (dat0 V c).arrAt_eq_of_covers 4 _ (by decide +kernel) fun t hf y => ?_
  blk_simp
  rw [after0_4, out0_4_apply, iblk0_0, iblk0_2]
  refine congrArg (· + ((16 * (Real.log 2)⁻¹ : ℝ) : EReal)) ?_
  have h := (by decide +kernel : ∀ (t : Fin grid0.N) a, (cfg0.win 4).index t a = 0) t
  refine congr (congr (congrArg _ (Fin.ext ?_)) (Fin.ext ?_)) (Fin.ext ?_) <;> blk_simp [h]

/-- The first program's third output: the key digits, scaled, less a half unit. -/
theorem arr0_5 (x : FVec Ideal S2048x768 .f32) (hx : V c main_call0_v0 = x)
    (w : FVec Ideal S768x48 .f32) (hw : V c main_call0_v8 = w) :
    (dat0 V c).arrAt 5 cfg0.N = fun j : S12x4x2048.Idx => digV x w (j 0) (j 2) (j 1) - ((16 * (Real.log 2)⁻¹ : ℝ) : EReal) := by
  subst hx; subst hw
  refine (dat0 V c).arrAt_eq_of_covers 5 _ (by decide +kernel) fun t hf y => ?_
  blk_simp
  rw [after0_5, out0_5_apply, iblk0_0, iblk0_2]
  refine congrArg (· - ((16 * (Real.log 2)⁻¹ : ℝ) : EReal)) ?_
  have h := (by decide +kernel : ∀ (t : Fin grid0.N) a, (cfg0.win 5).index t a = 0) t
  refine congr (congr (congrArg _ (Fin.ext ?_)) (Fin.ext ?_)) (Fin.ext ?_) <;> blk_simp [h]

theorem iblk1_0 (t : Fin cfg1.N) : iblk1 V c 0 t = V c main_call0_v0 := by
  have h := (by decide +kernel : ∀ t : Fin grid1.N, (cfg1.win 0).index t 0 = 0 ∧ (cfg1.win 0).index t 1 = 0) t
  funext j
  blk_ext [iblk1, h.1, h.2]

theorem iblk1_1 (t : Fin cfg1.N) (k : Fin 768) (d : Fin 64) :
    iblk1 V c 1 t (ix3 0 k d) = V c main_call0_v12 (ix3 t k d) := by
  have h := (by decide +kernel : ∀ t : Fin grid1.N, (cfg1.win 1).index t 0 = t.val ∧ (cfg1.win 1).index t 1 = 0 ∧ (cfg1.win 1).index t 2 = 0) t
  blk_ext [iblk1, h.1, h.2.1, h.2.2]

/-- The second program's output: each head's value vectors, a column of ones, zeros. -/
theorem arr1_2 (x : FVec Ideal S2048x768 .f32) (hx : V c main_call0_v0 = x)
    (w : FVec Ideal S12x768x64 .f32) (hw : V c main_call0_v12 = w) :
    (dat1 V c).arrAt 2 cfg1.N = fun j : S12x2048x128.Idx => valV x (fun k d => w (ix3 (j 0) k d)) (j 1) (j 2) := by
  subst hx; subst hw
  refine (dat1 V c).arrAt_eq_of_covers 2 _ (by decide +kernel) fun t hf y => ?_
  have h := (by decide +kernel : ∀ t : Fin grid1.N, (cfg1.win 2).index t 0 = t.val ∧ (cfg1.win 2).index t 1 = 0 ∧ (cfg1.win 2).index t 2 = 0) t
  blk_simp
  rw [after1_2, out1_2_apply, iblk1_0]
  have e0 : (win1_2.blk t).view.emb y 0 = t := Fin.ext (by
    have hy : (y 0).val < 1 := (y 0).isLt
    blk_simp [h.1])
  have e1 : (win1_2.blk t).view.emb y 1 = y 1 := Fin.ext (by blk_simp [h.2.1])
  have e2 : (win1_2.blk t).view.emb y 2 = y 2 := Fin.ext (by blk_simp [h.2.2])
  rw [e0, e1, e2]
  exact congrArg (fun f => valV _ f (y 1) (y 2)) (funext fun k => funext fun d => iblk1_1 V c t k d)

/-- A block of 256 query positions. -/
def aqBlk (aq : FVec Ideal S12x2048x4 .f32) (i : Fin 8) : FVec Ideal S12x256x4 .f32 :=
  fun j => aq (ix3 (j 0) ⟨256 * i.val + (j 1).val, by have : (j 1).val < 256 := (j 1).isLt; omega⟩ (j 2))

theorem iblk2_0 (t : Fin cfg2.N) : iblk2 V c 0 t = aqBlk (V c main_call0_v9_0) t := by
  have h := (by decide +kernel : ∀ t : Fin grid2.N, (cfg2.win 0).index t 0 = 0 ∧ (cfg2.win 0).index t 1 = t.val ∧ (cfg2.win 0).index t 2 = 0) t
  funext j
  unfold aqBlk
  blk_ext [iblk2, h.1, h.2.1, h.2.2]

theorem iblk2_1 (t : Fin cfg2.N) : iblk2 V c 1 t = V c main_call0_v9_1 := by
  have h := (by decide +kernel : ∀ t : Fin grid2.N, (cfg2.win 1).index t 0 = 0 ∧ (cfg2.win 1).index t 1 = 0 ∧ (cfg2.win 1).index t 2 = 0) t
  funext j
  blk_ext [iblk2, h.1, h.2.1, h.2.2]

theorem iblk2_2 (t : Fin cfg2.N) : iblk2 V c 2 t = V c main_call0_v9_2 := by
  have h := (by decide +kernel : ∀ t : Fin grid2.N, (cfg2.win 2).index t 0 = 0 ∧ (cfg2.win 2).index t 1 = 0 ∧ (cfg2.win 2).index t 2 = 0) t
  funext j
  blk_ext [iblk2, h.1, h.2.1, h.2.2]

theorem iblk2_3 (t : Fin cfg2.N) : iblk2 V c 3 t = V c main_call0_v13 := by
  have h := (by decide +kernel : ∀ t : Fin grid2.N, (cfg2.win 3).index t 0 = 0 ∧ (cfg2.win 3).index t 1 = 0 ∧ (cfg2.win 3).index t 2 = 0) t
  funext j
  blk_ext [iblk2, h.1, h.2.1, h.2.2]

theorem iblk2_4 (t : Fin cfg2.N) : iblk2 V c 4 t = V c main_call0_v15 := by
  have h := (by decide +kernel : ∀ t : Fin grid2.N, (cfg2.win 4).index t 0 = 0 ∧ (cfg2.win 4).index t 1 = 0) t
  funext j
  blk_ext [iblk2, h.1, h.2]

theorem iblk2_5 (t : Fin cfg2.N) : iblk2 V c 5 t = V c main_call0_v16 := by
  have h := (by decide +kernel : ∀ t : Fin grid2.N, (cfg2.win 5).index t 0 = 0 ∧ (cfg2.win 5).index t 1 = 0) t
  funext j
  blk_ext [iblk2, h.1, h.2]

/-- The third program's output array: the heads side by side, projected. -/
def attV (aq : FVec Ideal S12x2048x4 .f32) (bh bl : FVec Ideal S12x4x2048 .f32) (v : FVec Ideal S12x2048x128 .f32)
    (tri : FVec Ideal S256x256 .f32) (wo : FVec Ideal S768x768 .f32) (i : Fin 8) (r : Fin 256) (n : Fin 768) : EReal :=
  ∑ p : Fin 768, headV (aqBlk aq i) bh bl v tri ⟨p.val / 64, by omega⟩ i (ix2 r ⟨p.val % 64, by omega⟩) * wo (ix2 p n)

theorem coords2 (t : Fin cfg2.N) : (grid2.coords t) 0 = t :=
  Fin.ext ((by decide +kernel : ∀ t : Fin grid2.N, ((grid2.coords t) 0).val = t.val) t)

theorem arr2_6 (aq : FVec Ideal S12x2048x4 .f32) (haq : V c main_call0_v9_0 = aq) (bh : FVec Ideal S12x4x2048 .f32) (hbh : V c main_call0_v9_1 = bh)
    (bl : FVec Ideal S12x4x2048 .f32) (hbl : V c main_call0_v9_2 = bl) (v : FVec Ideal S12x2048x128 .f32) (hv : V c main_call0_v13 = v)
    (tri : FVec Ideal S256x256 .f32) (htri : V c main_call0_v15 = tri) (wo : FVec Ideal S768x768 .f32) (hwo : V c main_call0_v16 = wo) :
    (dat2 V c).arrAt 6 cfg2.N = fun j : S2048x768.Idx => attV aq bh bl v tri wo ⟨(j 0).val / 256, by
      have : (j 0).val < 2048 := (j 0).isLt
      omega⟩ ⟨(j 0).val % 256, by omega⟩ (j 1) := by
  subst haq; subst hbh; subst hbl; subst hv; subst htri; subst hwo
  refine (dat2 V c).arrAt_eq_of_covers 6 _ (by decide +kernel) fun t hf y => ?_
  have h := (by decide +kernel : ∀ t : Fin grid2.N, (cfg2.win 6).index t 0 = t.val ∧ (cfg2.win 6).index t 1 = 0) t
  have hy : (y 0).val < 256 := (y 0).isLt
  blk_simp
  rw [after2_6]
  unfold outsAt2
  have e1 : (win2_6.blk t).view.emb y 1 = y 1 := Fin.ext (by blk_simp [h.2])
  rw [iblk2_0, iblk2_1, iblk2_2, iblk2_3, iblk2_4, iblk2_5, e1, eq_ix2 y]
  refine (out2_apply c (grid2.coords t) _ _ _ _ _ _ _ _ _ _ _ _ _ _ _ _ _ _ _ _ (y 0) (y 1)).trans ?_
  rw [coords2]
  have ht : t.val < 8 := t.isLt
  exact congrArg₂ (fun i r => attV _ _ _ _ _ _ i r (y 1))
    (Fin.ext (by
      show t.val = (win2_6.index t 0 * 256 + (y 0).val) / 256
      rw [show win2_6.index t 0 = t.val from h.1]
      omega))
    (Fin.ext (by
      show (y 0).val = (win2_6.index t 0 * 256 + (y 0).val) % 256
      rw [show win2_6.index t 0 = t.val from h.1]
      omega))

end Cert.KernelIdeal.Val
end
-- ==== Proof.HeadValue.lean ====
module

public import proofs.«01_k».proof.Proof.Head
public import proofs.«01_k».proof.Proof.Math

@[expose] public section

set_option maxRecDepth 16384

noncomputable section

/-!
One head's value at a query position: the weighted mean of the values over the positions up to it.
-/

namespace Cert.KernelIdeal.Val

open Cert.KernelIdeal Cert.KernelIdeal.Gen Idealize.ShloMosaic Idealize.ShloMosaic.TcCoe Idealize.SL.Sem
open Facts Cert.Lcp

variable (aq : FVec Ideal S12x256x4 .f32) (bh bl : FVec Ideal S12x4x2048 .f32) (v : FVec Ideal S12x2048x128 .f32)
  (tri : FVec Ideal S256x256 .f32) (h : Fin 12) (a : Fin 256 → Fin 4 → ℝ) (b : Fin 2048 → Fin 4 → ℝ)

/-- The kernel's weight of a pair of positions, in a block, is the weight of their digits. -/
theorem kw_blk (haq : ∀ r l, aq (ix3 h r l) = ((a r l * (32 * (Real.log 2)⁻¹) : ℝ) : EReal))
    (hbh : ∀ l s, bh (ix3 h l s) = ((b s l * (32 * (Real.log 2)⁻¹) + 16 * (Real.log 2)⁻¹ : ℝ) : EReal))
    (hbl : ∀ l s, bl (ix3 h l s) = ((b s l * (32 * (Real.log 2)⁻¹) - 16 * (Real.log 2)⁻¹ : ℝ) : EReal))
    (k : Fin 8) (r kk : Fin 256) :
    kw (fun l => aqb aq h (ix3 0 r l)) (fun l => bbl bh h k (ix3 0 l kk)) (fun l => bbl bl h k (ix3 0 l kk))
      = ((wt (a r) (b ⟨256 * k.val + kk.val, by omega⟩) : ℝ) : EReal) := by
  rw [← kw_coe]
  exact congr (congr (congrArg kw (funext fun l => haq r l)) (funext fun l => hbh l _)) (funext fun l => hbl l _)

/-- The running sum before block `k`: the weighted values of the earlier blocks. -/
theorem loopV_apply (haq : ∀ r l, aq (ix3 h r l) = ((a r l * (32 * (Real.log 2)⁻¹) : ℝ) : EReal))
    (hbh : ∀ l s, bh (ix3 h l s) = ((b s l * (32 * (Real.log 2)⁻¹) + 16 * (Real.log 2)⁻¹ : ℝ) : EReal))
    (hbl : ∀ l s, bl (ix3 h l s) = ((b s l * (32 * (Real.log 2)⁻¹) - 16 * (Real.log 2)⁻¹ : ℝ) : EReal))
    (r : Fin 256) (c : Fin 128) (k : ℕ) (hk : k ≤ 8) :
    loopV aq bh bl v h k (ix2 r c) = pre (fun s => ((wt (a r) (b s) : ℝ) : EReal) * v (ix3 h s c)) k := by
  induction k with
  | zero => rw [pre_zero]; exact zeroV_apply _
  | succ k ih =>
    rw [pre_succ _ (by omega), ← ih (by omega)]
    conv_lhs => rw [loopV]
    rw [dif_pos (show k < 8 by omega), stepV_apply]
    refine congrArg (fun z : EReal => _ + z) (Finset.sum_congr rfl fun kk _ => ?_)
    rw [kw_blk aq bh bl h a b haq hbh hbl]
    rfl

theorem headV_apply (haq : ∀ r l, aq (ix3 h r l) = ((a r l * (32 * (Real.log 2)⁻¹) : ℝ) : EReal))
    (hbh : ∀ l s, bh (ix3 h l s) = ((b s l * (32 * (Real.log 2)⁻¹) + 16 * (Real.log 2)⁻¹ : ℝ) : EReal))
    (hbl : ∀ l s, bl (ix3 h l s) = ((b s l * (32 * (Real.log 2)⁻¹) - 16 * (Real.log 2)⁻¹ : ℝ) : EReal))
    (hone : ∀ s, v (ix3 h s 64) = 1) (htri : ∀ r k, tri (ix2 r k) = if k.val ≤ r.val then 1 else 0)
    (i : Fin 8) (r : Fin 256) (c : Fin 64) :
    headV aq bh bl v tri h i (ix2 r c)
      = ∑ s : Fin 2048, (pp (fun s => wt (a r) (b s)) (256 * i.val + r.val) s : EReal) * v (ix3 h s ⟨c.val, by omega⟩) := by
  have diag : ∀ c : Fin 128, loopV aq bh bl v h i.val (ix2 r c)
      + ∑ kk : Fin 256, kw (fun l => aqb aq h (ix3 0 r l)) (fun l => bbl bh h i (ix3 0 l kk)) (fun l => bbl bl h i (ix3 0 l kk))
          * tri (ix2 r kk) * vbl v h i (ix3 0 kk c)
      = ∑ s : Fin 2048, if s.val ≤ 256 * i.val + r.val then ((wt (a r) (b s) : ℝ) : EReal) * v (ix3 h s c) else 0 := by
    intro c
    rw [← pre_diag (fun s => ((wt (a r) (b s) : ℝ) : EReal) * v (ix3 h s c)) i r,
      loopV_apply aq bh bl v h a b haq hbh hbl r c i.val (by omega)]
    refine congrArg (fun z : EReal => _ + z) (Finset.sum_congr rfl fun kk _ => ?_)
    rw [kw_blk aq bh bl h a b haq hbh hbl, htri]
    by_cases hkr : kk.val ≤ r.val
    · rw [if_pos hkr, if_pos hkr, mul_one]; rfl
    · rw [if_neg hkr, if_neg hkr, mul_zero, zero_mul]
  unfold headV
  rw [finV_apply, diag, diag, ← quot_row (fun s => wt_pos _ _)]
  simp only [hone]

end Cert.KernelIdeal.Val
end
-- ==== Proof.Host.lean ====
module

public import proofs.«01_k».proof.Proof.KRun
public import proofs.«01_k».proof.Proof.Math
public import Idealize.ShloMosaic.Lib.StableHlo.RunRead

@[expose] public section

set_option maxRecDepth 16384

noncomputable section

/-!
The kernel's host operations, each buffer that a launched program reads given at an index.
-/

namespace Cert.KernelIdeal.Val

open Cert.KernelIdeal Cert.KernelIdeal.Gen Idealize.ShloMosaic Idealize.ShloMosaic.TcCoe Idealize.SL.Sem
open Facts Cert.Lcp

variable (X : Valuation τ sig (Elt Ideal))

theorem host_x (x : FVec Ideal S1x2048x768 .f32) (hx : X (Proc.devRef .tc main_arg0) = x) :
    StableHlo.after hostOps0 X (Proc.devRef .tc main_call0_v0) = shapeCast S2048x768 x shapeCasts_S1x2048x768_S2048x768 := by
  subst hx
  after_reads_simp
  rfl

theorem host_x_apply (x : FVec Ideal S1x2048x768 .f32) (t : Fin 2048) (k : Fin 768) :
    shapeCast S2048x768 x shapeCasts_S1x2048x768_S2048x768 (ix2 t k) = x (ix3 0 t k) := by
  pointwise

/-- A digit projection folded into a weight matrix: one row per input feature, one column per head and digit. -/
def foldV (w : FVec Ideal S768x768 .f32) (d : FVec Ideal S4x64 .f32) : FVec Ideal S768x48 .f32 :=
  shapeCast S768x48 (Host.dotGeneral dot_S768x12x64_S4x64_S768x12x4_2_1_01_0_n_n none
    (shapeCast S768x12x64 (transpose S768x768 [1, 0] w transposes_S768x768_S768x768_1_0) shapeCasts_S768x768_S768x12x64) d)
    shapeCasts_S768x12x4_S768x48

theorem foldV_apply (w : FVec Ideal S768x768 .f32) (d : FVec Ideal S4x64 .f32) (k : Fin 768) (h : Fin 12) (l : Fin 4) :
    foldV w d (ix2 k ⟨4 * h.val + l.val, by omega⟩) = ∑ e : Fin 64, d (ix2 l e) * w (ix2 ⟨64 * h.val + e.val, by omega⟩ k) := by
  unfold foldV
  pointwise
  refine Finset.sum_congr rfl fun e _ => ?_
  rw [mul_comm]
  congr 2 <;> refine congrArg₂ ix2 ?_ ?_ <;> refine Fin.ext ?_ <;> simp only <;> omega

theorem host_wq (w : FVec Ideal S768x768 .f32) (hw : X (Proc.devRef .tc main_arg1) = w)
    (d : FVec Ideal S4x64 .f32) (hd : X (Proc.devRef .tc main_arg5) = d) :
    StableHlo.after hostOps0 X (Proc.devRef .tc main_call0_v4) = foldV w d := by
  subst hw; subst hd
  after_reads_simp
  rfl

theorem host_wk (w : FVec Ideal S768x768 .f32) (hw : X (Proc.devRef .tc main_arg2) = w)
    (d : FVec Ideal S4x64 .f32) (hd : X (Proc.devRef .tc main_arg6) = d) :
    StableHlo.after hostOps0 X (Proc.devRef .tc main_call0_v8) = foldV w d := by
  subst hw; subst hd
  after_reads_simp
  rfl

/-- The value weights, one matrix per head. -/
def splitV (w : FVec Ideal S768x768 .f32) : FVec Ideal S12x768x64 .f32 :=
  transpose S12x768x64 [1, 0, 2]
    (shapeCast S768x12x64 (transpose S768x768 [1, 0] w transposes_S768x768_S768x768_1_0) shapeCasts_S768x768_S768x12x64)
    transposes_S768x12x64_S12x768x64_1_0_2

theorem splitV_apply (w : FVec Ideal S768x768 .f32) (h : Fin 12) (k : Fin 768) (d : Fin 64) :
    splitV w (ix3 h k d) = w (ix2 ⟨64 * h.val + d.val, by omega⟩ k) := by
  unfold splitV
  pointwise
  refine congrArg w (congrArg₂ ix2 (Fin.ext ?_) rfl)
  simp only
  omega

theorem host_wv (w : FVec Ideal S768x768 .f32) (hw : X (Proc.devRef .tc main_arg3) = w) :
    StableHlo.after hostOps1 X (Proc.devRef .tc main_call0_v12) = splitV w := by
  subst hw
  after_reads_simp
  rfl

theorem host_wo (w : FVec Ideal S768x768 .f32) (hw : X (Proc.devRef .tc main_arg4) = w) :
    StableHlo.after hostOps2 X (Proc.devRef .tc main_call0_v16) = transpose S768x768 [1, 0] w transposes_S768x768_S768x768_1_0 := by
  subst hw
  after_reads_simp
  rfl

theorem host_wo_apply (w : FVec Ideal S768x768 .f32) (p n : Fin 768) :
    transpose S768x768 [1, 0] w transposes_S768x768_S768x768_1_0 (ix2 p n) = w (ix2 n p) := by
  pointwise

/-- The lower triangle of ones. -/
def triV : FVec Ideal S256x256 .f32 :=
  select (cmpi .sge (addi (iotaInDim S256x256 32 0) (broadcastInDim S256x256 ![] bcast_S_S256x256 (constantI S_ 32 0#32))) (iotaInDim S256x256 32 1))
    (broadcastInDim S256x256 ![] bcast_S_S256x256 (constant S_ .f32 0x3F800000#32))
    (broadcastInDim S256x256 ![] bcast_S_S256x256 (constant S_ .f32 0x00000000#32))

theorem triV_apply (r k : Fin 256) : triV (ix2 r k) = if k.val ≤ r.val then 1 else 0 := by
  unfold triV
  pointwise
  rw [sge_of _ _ (by omega) (by omega), sel_of]

theorem host_tri : StableHlo.after hostOps2 X (Proc.devRef .tc main_call0_v15) = triV := by
  after_reads_simp
  rfl

theorem host_y (y : FVec Ideal S2048x768 .f32) (hy : X (Proc.devRef .tc main_call0_v17) = y) :
    StableHlo.after hostOps3 X (Proc.devRef .tc main_v0) = shapeCast S1x2048x768 y shapeCasts_S2048x768_S1x2048x768 := by
  subst hy
  after_reads_simp
  rfl

theorem host_y_apply (y : FVec Ideal S2048x768 .f32) (t : Fin 2048) (n : Fin 768) :
    shapeCast S1x2048x768 y shapeCasts_S2048x768_S1x2048x768 (ix3 0 t n) = y (ix2 t n) := by
  pointwise

end Cert.KernelIdeal.Val
end
-- ==== Proof.KValue.lean ====
module

public import proofs.«01_k».proof.Proof.Arr
public import proofs.«01_k».proof.Proof.HeadValue
public import proofs.«01_k».proof.Proof.Host

@[expose] public section

set_option maxRecDepth 16384

noncomputable section

/-!
The kernel's result: the host steps and the three launched programs, joined.
-/

namespace Cert.KernelIdeal.Val

open Cert.KernelIdeal Cert.KernelIdeal.Gen Idealize.ShloMosaic Idealize.ShloMosaic.TcCoe Idealize.SL.Sem
open Facts Cert.Lcp

/-! ### The arrays between the launched programs -/

/-- The input as a matrix. -/
def xV (x : FVec Ideal S1x2048x768 .f32) : FVec Ideal S2048x768 .f32 := shapeCast S2048x768 x shapeCasts_S1x2048x768_S2048x768

/-- The query digits. -/
def aqV (x : FVec Ideal S1x2048x768 .f32) (w : FVec Ideal S768x768 .f32) (d : FVec Ideal S4x64 .f32) : FVec Ideal S12x2048x4 .f32 :=
  fun j => digV (xV x) (foldV w d) (j 0) (j 1) (j 2)

/-- The key digits, raised. -/
def bhV (x : FVec Ideal S1x2048x768 .f32) (w : FVec Ideal S768x768 .f32) (d : FVec Ideal S4x64 .f32) : FVec Ideal S12x4x2048 .f32 :=
  fun j => (digV (xV x) (foldV w d) (j 0) (j 2) (j 1) + ((16 * (Real.log 2)⁻¹ : ℝ) : EReal) : EReal)

/-- The key digits, lowered. -/
def blV (x : FVec Ideal S1x2048x768 .f32) (w : FVec Ideal S768x768 .f32) (d : FVec Ideal S4x64 .f32) : FVec Ideal S12x4x2048 .f32 :=
  fun j => (digV (xV x) (foldV w d) (j 0) (j 2) (j 1) - ((16 * (Real.log 2)⁻¹ : ℝ) : EReal) : EReal)

/-- The values. -/
def vaV (x : FVec Ideal S1x2048x768 .f32) (w : FVec Ideal S768x768 .f32) : FVec Ideal S12x2048x128 .f32 :=
  fun j => valV (xV x) (fun k d => splitV w (ix3 (j 0) k d)) (j 1) (j 2)

/-- The result as a matrix. -/
def yV (x : FVec Ideal S1x2048x768 .f32) (wq wk wv wo : FVec Ideal S768x768 .f32) (dq dk : FVec Ideal S4x64 .f32) : FVec Ideal S2048x768 .f32 :=
  fun j => attV (aqV x wq dq) (bhV x wk dk) (blV x wk dk) (vaV x wv) triV (transpose S768x768 [1, 0] wo transposes_S768x768_S768x768_1_0)
    ⟨(j 0).val / 256, by
      have : (j 0).val < 2048 := (j 0).isLt
      omega⟩ ⟨(j 0).val % 256, by omega⟩ (j 1)

section
variable (m : (ℓ : Loc nD τ sig) → Buf (Elt Ideal) ℓ) (ρ : Dev nD → PrngReg) (c : Dev nD)
  (x : FVec Ideal S1x2048x768 .f32) (wq wk wv wo : FVec Ideal S768x768 .f32) (dq dk : FVec Ideal S4x64 .f32)
  (h0 : m ((c : Thread nD τ).loc main_arg0) = x) (h1 : m ((c : Thread nD τ).loc main_arg1) = wq)
  (h2 : m ((c : Thread nD τ).loc main_arg2) = wk) (h3 : m ((c : Thread nD τ).loc main_arg3) = wv)
  (h4 : m ((c : Thread nD τ).loc main_arg4) = wo) (h5 : m ((c : Thread nD τ).loc main_arg5) = dq)
  (h6 : m ((c : Thread nD τ).loc main_arg6) = dk)

include h0 in
theorem w1_x : V1 m ρ c main_call0_v0 = xV x := host_x (W0 m ρ c) x h0

include h1 h5 in
theorem w1_q : V1 m ρ c main_call0_v4 = foldV wq dq := host_wq (W0 m ρ c) wq h1 dq h5

include h2 h6 in
theorem w1_k : V1 m ρ c main_call0_v8 = foldV wk dk := host_wk (W0 m ρ c) wk h2 dk h6

include h0 h1 h5 in
theorem w5_aq : V5 m ρ c main_call0_v9_0 = aqV x wq dq :=
  (W5_of m ρ c main_call0_v9_0 (by decide)).trans ((W4_of m ρ c main_call0_v9_0 (by decide)).trans
    ((W3_of m ρ c main_call0_v9_0 (by decide)).trans ((W2_arr m ρ c 3).trans
      (arr0_3 (V1 m ρ) c (xV x) (w1_x m ρ c x h0) (foldV wq dq) (w1_q m ρ c wq dq h1 h5)))))

include h0 h2 h6 in
theorem w5_bh : V5 m ρ c main_call0_v9_1 = bhV x wk dk :=
  (W5_of m ρ c main_call0_v9_1 (by decide)).trans ((W4_of m ρ c main_call0_v9_1 (by decide)).trans
    ((W3_of m ρ c main_call0_v9_1 (by decide)).trans ((W2_arr m ρ c 4).trans
      (arr0_4 (V1 m ρ) c (xV x) (w1_x m ρ c x h0) (foldV wk dk) (w1_k m ρ c wk dk h2 h6)))))

include h0 h2 h6 in
theorem w5_bl : V5 m ρ c main_call0_v9_2 = blV x wk dk :=
  (W5_of m ρ c main_call0_v9_2 (by decide)).trans ((W4_of m ρ c main_call0_v9_2 (by decide)).trans
    ((W3_of m ρ c main_call0_v9_2 (by decide)).trans ((W2_arr m ρ c 5).trans
      (arr0_5 (V1 m ρ) c (xV x) (w1_x m ρ c x h0) (foldV wk dk) (w1_k m ρ c wk dk h2 h6)))))

include h0 h3 in
theorem w5_va : V5 m ρ c main_call0_v13 = vaV x wv :=
  (W5_of m ρ c main_call0_v13 (by decide)).trans ((W4_arr m ρ c 2).trans
    (arr1_2 (V3 m ρ) c (xV x)
      ((W3_of m ρ c main_call0_v0 (by decide)).trans ((W2_of m ρ c main_call0_v0 (by decide)).trans (w1_x m ρ c x h0)))
      (splitV wv) (host_wv (W2 m ρ c) wv ((W2_args m ρ c main_arg3 (by decide)).trans h3))))

include h0 h1 h2 h3 h4 h5 h6 in
/-- The kernel's result buffer at the end. -/
theorem w7_y : W7 m ρ c (Proc.devRef .tc main_v0)
    = shapeCast S1x2048x768 (yV x wq wk wv wo dq dk) shapeCasts_S2048x768_S1x2048x768 :=
  host_y (W6 m ρ c) (yV x wq wk wv wo dq dk) ((W6_arr m ρ c 6).trans
    (arr2_6 (V5 m ρ) c (aqV x wq dq) (w5_aq m ρ c x wq dq h0 h1 h5) (bhV x wk dk) (w5_bh m ρ c x wk dk h0 h2 h6)
      (blV x wk dk) (w5_bl m ρ c x wk dk h0 h2 h6) (vaV x wv) (w5_va m ρ c x wv h0 h3) triV (host_tri (W4 m ρ c))
      (transpose S768x768 [1, 0] wo transposes_S768x768_S768x768_1_0)
      (host_wo (W4 m ρ c) wo ((W4_args m ρ c main_arg4 (by decide)).trans h4))))
end

/-! ### Their values at real arguments -/

variable (x : FVec Ideal S1x2048x768 .f32) (xr : Fin 2048 → Fin 768 → ℝ) (hx : ∀ t k, x (ix3 0 t k) = ((xr t k : ℝ) : EReal))

include hx

/-- A digit. -/
theorem digV_real (w : FVec Ideal S768x768 .f32) (d : FVec Ideal S4x64 .f32) (W : Fin 768 → Fin 768 → ℝ) (D : Fin 4 → Fin 64 → ℝ)
    (hw : ∀ p k, w (ix2 p k) = ((W p k : ℝ) : EReal)) (hdd : ∀ l e, d (ix2 l e) = ((D l e : ℝ) : EReal))
    (h : Fin 12) (t : Fin 2048) (l : Fin 4) :
    digV (xV x) (foldV w d) h t l = ((dig xr W D h t l * (32 * (Real.log 2)⁻¹) : ℝ) : EReal) := by
  have e : (∑ k : Fin 768, (xV x (ix2 t k) : EReal) * foldV w d (ix2 k ⟨4 * h.val + l.val, by omega⟩) : EReal)
      = ((logit xr W D h t l : ℝ) : EReal) := by
    rw [← logit_assoc, coe_sum]
    refine Finset.sum_congr rfl fun k _ => ?_
    rw [foldV_apply, EReal.coe_mul, coe_sum]
    refine congr (congrArg (fun a b : EReal => a * b) ((host_x_apply x t k).trans (hx t k))) ?_
    refine Finset.sum_congr rfl fun e _ => ?_
    rw [hw, hdd, EReal.coe_mul]
    rfl
  unfold digV
  rw [e, Ideal.logistic_coe, EReal.coe_mul]
  rfl

/-- The values' columns. -/
theorem vaV_real (w : FVec Ideal S768x768 .f32) (h : Fin 12) (s : Fin 2048) (e : Fin 64) :
    vaV x w (ix3 h s ⟨e.val, by omega⟩) = vv xr (fun p k => w (ix2 p k)) h s e := by
  show valV (xV x) (fun k d => splitV w (ix3 h k d)) s ⟨e.val, by omega⟩ = _
  unfold valV
  rw [dif_pos (show e.val < 64 from e.isLt)]
  unfold vv
  refine Finset.sum_congr rfl fun k _ => ?_
  exact congr (congrArg (fun a b : EReal => a * b) ((host_x_apply x s k).trans (hx s k))) (splitV_apply w h k e)

omit hx in
/-- The values' column of ones. -/
theorem vaV_one (w : FVec Ideal S768x768 .f32) (h : Fin 12) (s : Fin 2048) : vaV x w (ix3 h s ⟨64, by omega⟩) = (1 : EReal) := by
  show valV (xV x) (fun k d => splitV w (ix3 h k d)) s ⟨64, by omega⟩ = _
  unfold valV
  rw [dif_neg (show ¬ (64 < 64) by omega)]
  rfl

/-- The kernel's result at real arguments. -/
theorem yV_real (wq wk wv wo : FVec Ideal S768x768 .f32) (dq dk : FVec Ideal S4x64 .f32)
    (Wq Wk : Fin 768 → Fin 768 → ℝ) (Dq Dk : Fin 4 → Fin 64 → ℝ)
    (hq : ∀ p k, wq (ix2 p k) = ((Wq p k : ℝ) : EReal)) (hk : ∀ p k, wk (ix2 p k) = ((Wk p k : ℝ) : EReal))
    (hdq : ∀ l e, dq (ix2 l e) = ((Dq l e : ℝ) : EReal)) (hdk : ∀ l e, dk (ix2 l e) = ((Dk l e : ℝ) : EReal))
    (t : Fin 2048) (n : Fin 768) :
    yV x wq wk wv wo dq dk (ix2 t n) = yy xr Wq Wk Dq Dk (fun p k => wv (ix2 p k)) (fun p k => wo (ix2 p k)) t n := by
  have ht : 256 * (t.val / 256) + t.val % 256 = t.val := by omega
  show attV _ _ _ _ _ _ _ _ _ = _
  unfold attV yy
  refine Finset.sum_congr rfl fun p _ => ?_
  refine congr (congrArg (fun a b : EReal => a * b) ?_) (host_wo_apply wo p n)
  refine (headV_apply _ _ _ _ _ _ (fun r l => dig xr Wq Dq ⟨p.val / 64, by omega⟩ ⟨256 * (t.val / 256) + r.val, by omega⟩ l)
    (fun s l => dig xr Wk Dk ⟨p.val / 64, by omega⟩ s l) ?_ ?_ ?_ ?_ ?_ _ _ _).trans ?_
  · intro r l
    exact digV_real x xr hx wq dq Wq Dq hq hdq _ _ _
  · intro l s
    refine (congrArg (fun z : EReal => z + _) (digV_real x xr hx wk dk Wk Dk hk hdk _ s l)).trans ?_
    rw [← EReal.coe_add]
    rfl
  · intro l s
    refine (congrArg (fun z : EReal => z - _) (digV_real x xr hx wk dk Wk Dk hk hdk _ s l)).trans ?_
    rw [← EReal.coe_sub]
    rfl
  · intro s
    exact vaV_one x wv _ s
  · exact triV_apply
  · unfold oo
    refine Finset.sum_congr rfl fun s _ => ?_
    refine congr (congrArg (fun a b : EReal => a * b) ?_) (vaV_real x xr hx wv _ s ⟨p.val % 64, by omega⟩)
    have e : (⟨256 * (t.val / 256) + t.val % 256, by omega⟩ : Fin 2048) = t := Fin.ext ht
    show ((pp (fun s => wt (dig xr Wq Dq ⟨p.val / 64, by omega⟩ ⟨256 * (t.val / 256) + t.val % 256, by omega⟩)
      (dig xr Wk Dk ⟨p.val / 64, by omega⟩ s)) (256 * (t.val / 256) + t.val % 256) s : ℝ) : EReal) = _
    rw [e, ht]
    rfl

end Cert.KernelIdeal.Val
end
-- ==== Proof.RefValue.lean ====
module

public import proofs.«01_k».proof.Proof.Gen.ReferenceIdeal.Run
public import proofs.«01_k».proof.Proof.Math

@[expose] public section

set_option maxRecDepth 16384

noncomputable section

/-!
The reference's digits, matches and masked scores, read at an index.
-/

namespace Cert.ReferenceIdeal.Val

open Cert.ReferenceIdeal Cert.ReferenceIdeal.Gen Cert.ReferenceIdeal.Value Idealize.ShloMosaic Idealize.ShloMosaic.TcCoe Idealize.SL.Sem
open Facts Cert.Lcp

/-! ### Constants -/

theorem c32 : Ideal.ofBits .f32 0x42000000#32 = ((32 : ℝ) : EReal) := by
  simp [Ideal.ofBits, Ideal.ieee, -EReal.coe_mul]; norm_num

theorem chalf : Ideal.ofBits .f32 0x3F000000#32 = ((1 / 2 : ℝ) : EReal) := by
  simp [Ideal.ofBits, Ideal.ieee, -EReal.coe_mul]; norm_num

theorem c2 : Ideal.ofBits .f32 0x40000000#32 = ((2 : ℝ) : EReal) := by
  simp [Ideal.ofBits, Ideal.ieee, -EReal.coe_mul]; norm_num

theorem cbot : Ideal.ofBits .f32 0xFF800000#32 = ⊥ := by
  simp [Ideal.ofBits, Ideal.ieee]

theorem cbot_apply (S : Shape) (j : S.Idx) : id (constant (F := Ideal) S .f32 0xFF800000#32) j = (⊥ : EReal) := cbot

/-! ### Scalars -/

/-- A sigmoid of a real. -/
theorem sig_coe (r : ℝ) : Ideal.div 1 (1 + Ideal.exp (-(r : EReal))) = (((1 + Real.exp (-r))⁻¹ : ℝ) : EReal) := by
  have h : (1 + Real.exp (-r)) ≠ 0 := by positivity
  rw [← EReal.coe_neg, Ideal.exp_coe, ← EReal.coe_one, ← EReal.coe_add, Ideal.div_coe h, ← EReal.coe_mul, one_mul, one_div]

/-- A level's match of two real digits. -/
theorem mm_coe (a b : ℝ) :
    Ideal.div 1 (1 + Ideal.exp (-(Ideal.ofBits .f32 0x42000000#32 * (Ideal.ofBits .f32 0x3F000000#32
        - FloatOps.absf (F := Ideal) (φ := .f32) ((a : EReal) - (b : EReal)))))) = ((mm a b : ℝ) : EReal) := by
  have h : FloatOps.absf (F := Ideal) (φ := .f32) ((a : EReal) - (b : EReal)) = ((|a - b| : ℝ) : EReal) := by
    show max ((a : EReal) - (b : EReal)) (-((a : EReal) - (b : EReal))) = _
    rw [← EReal.coe_sub, ← EReal.coe_neg, ← EReal.coe_strictMono.monotone.map_max, abs_eq_max_neg]
  rw [h, c32, chalf, ← EReal.coe_sub, ← EReal.coe_mul, sig_coe]
  rfl

theorem log2_coe : Ideal.log (Ideal.ofBits .f32 0x40000000#32) = ((Real.log 2 : ℝ) : EReal) := by
  rw [c2, Ideal.log_coe, if_neg (by norm_num)]

/-- A causal row's greatest entry is a real. -/
theorem max_row (f : Fin 2048 → ℝ) (t : ℕ) :
    ∃ M : ℝ, max (⊥ : EReal) (Finset.fold max (⊥ : EReal) (fun s : Fin 2048 => if s.val ≤ t then (f s : EReal) else ⊥) Finset.univ)
      = (M : EReal) := by
  rw [max_eq_right bot_le]
  obtain ⟨s, -, hs⟩ := Finset.exists_mem_eq_sup (Finset.univ : Finset (Fin 2048)) ⟨0, Finset.mem_univ _⟩
    (fun s : Fin 2048 => if s.val ≤ t then (f s : EReal) else ⊥)
  have h0 := Finset.le_sup (f := fun s : Fin 2048 => if s.val ≤ t then (f s : EReal) else ⊥) (Finset.mem_univ 0)
  change Finset.sup _ _ = _ at hs
  rw [hs] at h0
  have e : Finset.fold max (⊥ : EReal) (fun s : Fin 2048 => if s.val ≤ t then (f s : EReal) else ⊥) Finset.univ
      = Finset.sup Finset.univ (fun s : Fin 2048 => if s.val ≤ t then (f s : EReal) else ⊥) := rfl
  rw [e, hs]
  by_cases h : s.val ≤ t
  · exact ⟨f s, if_pos h⟩
  · simp [h] at h0

/-! ### The arrays -/

variable (X : Valuation τ sig (Elt Ideal))
  (x : Fin 2048 → Fin 768 → ℝ) (Wq Wk : Fin 768 → Fin 768 → ℝ) (Dq Dk : Fin 4 → Fin 64 → ℝ)

/-- Real products summed, as the projections and the digit products are. -/
theorem logit_coe (W : Fin 768 → Fin 768 → ℝ) (D : Fin 4 → Fin 64 → ℝ) (h : Fin 12) (t : Fin 2048) (l : Fin 4) :
    ∑ d : Fin 64, (∑ k : Fin 768, ((x t k : ℝ) : EReal) * ((W (hd h d) k : ℝ) : EReal)) * ((D l d : ℝ) : EReal)
      = ((logit x W D h t l : ℝ) : EReal) := by
  unfold logit
  simp only [coe_sum, EReal.coe_mul]

/-- The query digits. -/
theorem v21_apply (hx : ∀ t k, X (Proc.devRef .tc main_arg0) (ix3 0 t k) = ((x t k : ℝ) : EReal))
    (hw : ∀ p k, X (Proc.devRef .tc main_arg1) (ix2 p k) = ((Wq p k : ℝ) : EReal))
    (hdd : ∀ l d, X (Proc.devRef .tc main_arg5) (ix2 l d) = ((Dq l d : ℝ) : EReal)) (h : Fin 12) (t : Fin 2048) (l : Fin 4) :
    res_main_v21 X (ix4 0 h t l) = ((dig x Wq Dq h t l : ℝ) : EReal) := by
  unfold res_main_v21 dig
  pointwise
  rw [← sig_coe, ← logit_coe]
  simp only [hx, hw, hdd]
  simp only [hd, mul_comm 64 h.val]

/-- The key digits. -/
theorem v31_apply (hx : ∀ t k, X (Proc.devRef .tc main_arg0) (ix3 0 t k) = ((x t k : ℝ) : EReal))
    (hw : ∀ p k, X (Proc.devRef .tc main_arg2) (ix2 p k) = ((Wk p k : ℝ) : EReal))
    (hdd : ∀ l d, X (Proc.devRef .tc main_arg6) (ix2 l d) = ((Dk l d : ℝ) : EReal)) (h : Fin 12) (t : Fin 2048) (l : Fin 4) :
    res_main_v31 X (ix4 0 h t l) = ((dig x Wk Dk h t l : ℝ) : EReal) := by
  unfold res_main_v31 dig
  pointwise
  rw [← sig_coe, ← logit_coe]
  simp only [hx, hw, hdd]
  simp only [hd, mul_comm 64 h.val]

section
variable (a b : Fin 12 → Fin 2048 → Fin 4 → ℝ)
  (ha : ∀ h t l, res_main_v21 X (ix4 0 h t l) = ((a h t l : ℝ) : EReal))
  (hb : ∀ h t l, res_main_v31 X (ix4 0 h t l) = ((b h t l : ℝ) : EReal))
include ha hb

theorem v54_apply (h : Fin 12) (t s : Fin 2048) : res_main_v54 X (ix4 0 h t s) = ((mm (a h t 0) (b h s 0) : ℝ) : EReal) := by
  unfold res_main_v54
  pointwise
  rw [ha, hb, mm_coe]

theorem v76_apply (h : Fin 12) (t s : Fin 2048) :
    res_main_v76 X (ix4 0 h t s) = ((mm (a h t 0) (b h s 0) * mm (a h t 1) (b h s 1) : ℝ) : EReal) := by
  unfold res_main_v76
  pointwise
  rw [v54_apply X a b ha hb, ha, hb, mm_coe, ← EReal.coe_mul]

theorem v98_apply (h : Fin 12) (t s : Fin 2048) :
    res_main_v98 X (ix4 0 h t s)
      = ((mm (a h t 0) (b h s 0) * mm (a h t 1) (b h s 1) * mm (a h t 2) (b h s 2) : ℝ) : EReal) := by
  unfold res_main_v98
  pointwise
  rw [v76_apply X a b ha hb, ha, hb, mm_coe, ← EReal.coe_mul]

/-- The masked scores. -/
theorem v128_apply (h : Fin 12) (t s : Fin 2048) :
    res_main_v128 X (ix4 0 h t s) = if s.val ≤ t.val then ((Real.log (wt (a h t) (b h s)) : ℝ) : EReal) else ⊥ := by
  unfold res_main_v128
  pointwise
  rw [sge_of _ _ (by omega) (by omega), cbot_apply, log2_coe, v54_apply X a b ha hb, v76_apply X a b ha hb,
    v98_apply X a b ha hb, ha, hb, mm_coe, ← EReal.coe_mul, ← EReal.coe_add, ← EReal.coe_add, ← EReal.coe_add, ← EReal.coe_mul]
  unfold wt lcp
  rw [Real.log_exp]
  by_cases hst : s.val ≤ t.val <;> simp [Scalar.select, hst]

end
end Cert.ReferenceIdeal.Val
end
-- ==== Proof.RefSoft.lean ====
module

public import proofs.«01_k».proof.Proof.Gen.ReferenceIdeal.Run
public import proofs.«01_k».proof.Proof.RefValue

@[expose] public section

set_option maxRecDepth 16384

noncomputable section

/-!
The reference's weights, values and result, read at an index.
-/

namespace Cert.ReferenceIdeal.Val

open Cert.ReferenceIdeal Cert.ReferenceIdeal.Gen Cert.ReferenceIdeal.Value Idealize.ShloMosaic Idealize.ShloMosaic.TcCoe Idealize.SL.Sem
open Facts Cert.Lcp

variable (X : Valuation τ sig (Elt Ideal))

/-- The exponentials of an array less a column of it. -/
theorem expV_apply (v : FVec Ideal S1x12x2048x2048 .f32) (r : FVec Ideal S1x12x2048 .f32) (h : Fin 12) (t s : Fin 2048) :
    (Host.exp (subf v (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) r))))) (ix4 0 h t s)
    = Ideal.exp ((v (ix4 0 h t s) : EReal) - max (Ideal.ofBits .f32 0xFF800000#32) (r (ix3 0 h t) : EReal)) := by
  pointwise

/-- A row's greatest entry. -/
theorem maxV_apply (v : FVec Ideal S1x12x2048x2048 .f32) (h : Fin 12) (t : Fin 2048) :
    (Host.reduce (FloatOps.maximumf (F := Ideal) (φ := .f32)) v (constant (F := Ideal) S_ .f32 0xFF800000#32) reducesTo_S1x12x2048x2048_S1x12x2048_d3 h_S_) (ix3 0 h t)
    = Finset.fold (max : EReal → EReal → EReal) (Ideal.ofBits .f32 0xFF800000#32) (fun s' : Fin 2048 => v (ix4 0 h t s')) Finset.univ := by
  refine (Host.reduce_eq_fold _ _ _ _ _ _).trans ?_
  exact Shape.ReducesTo.fold_fiber_r4_a3 reducesTo_S1x12x2048x2048_S1x12x2048_d3 (ix3 0 h t) _ _ v

section
variable (a b : Fin 12 → Fin 2048 → Fin 4 → ℝ)
  (ha : ∀ h t l, res_main_v21 X (ix4 0 h t l) = ((a h t l : ℝ) : EReal))
  (hb : ∀ h t l, res_main_v31 X (ix4 0 h t l) = ((b h t l : ℝ) : EReal))
include ha hb

/-- The exponentials of the scores, less the row's greatest. -/
theorem v135_apply (h : Fin 12) (t : Fin 2048) : ∃ M : ℝ, ∀ s : Fin 2048,
    (res_main_v135 X : FVec Ideal S1x12x2048x2048 .f32) (ix4 0 h t s)
      = Ideal.exp ((if s.val ≤ t.val then ((Real.log (wt (a h t) (b h s)) : ℝ) : EReal) else ⊥) - (M : EReal)) := by
  obtain ⟨M, hM⟩ := max_row (fun s => Real.log (wt (a h t) (b h s))) t.val
  refine ⟨M, fun s => ?_⟩
  have e : ∀ s : Fin 2048, (res_main_v128 X : FVec Ideal S1x12x2048x2048 .f32) (ix4 0 h t s)
      = if s.val ≤ t.val then ((Real.log (wt (a h t) (b h s)) : ℝ) : EReal) else ⊥ := v128_apply X a b ha hb h t
  rw [← hM]
  unfold res_main_v135
  refine (expV_apply (res_main_v128 X) _ h t s).trans ?_
  rw [maxV_apply, cbot, e s]
  simp only [e]

end

/-- An array's rows over their sums. -/
def softV (e : FVec Ideal S1x12x2048x2048 .f32) : FVec Ideal S1x12x2048x2048 .f32 :=
  Host.divf e (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd e (constant S_ .f32 0x00000000#32) reducesTo_S1x12x2048x2048_S1x12x2048_d3 h_S_)))

theorem softV_apply (e : FVec Ideal S1x12x2048x2048 .f32) (h : Fin 12) (t s : Fin 2048) :
    softV e (ix4 0 h t s) = Ideal.div (e (ix4 0 h t s)) (∑ s' : Fin 2048, e (ix4 0 h t s') : EReal) := by
  unfold softV
  pointwise

/-- The value projection, head by head. -/
def valV (x : FVec Ideal S1x2048x768 .f32) (w : FVec Ideal S768x768 .f32) : FVec Ideal S12x2048x64 .f32 :=
  shapeCast _ (transpose S1x12x2048x64 [0, 2, 1, 3] (shapeCast _ (Host.dotGeneral dot_S1x2048x768_S768x768_S1x2048x768_2_0_01_1_n_n none x (transpose S768x768 [1, 0] w transposes_S768x768_S768x768_1_0)) shapeCasts_S1x2048x768_S1x2048x12x64) transposes_S1x2048x12x64_S1x12x2048x64_0_2_1_3) shapeCasts_S1x12x2048x64_S12x2048x64

theorem valV_apply (x : FVec Ideal S1x2048x768 .f32) (w : FVec Ideal S768x768 .f32) (h : Fin 12) (s : Fin 2048) (d : Fin 64) :
    valV x w (ix3 h s d) = (∑ k : Fin 768, x (ix3 0 s k) * w (ix2 (hd h d) k) : EReal) := by
  unfold valV
  pointwise
  simp only [hd, mul_comm 64 h.val]

/-- The weighted values, joined and projected. -/
def outV (p : FVec Ideal S1x12x2048x2048 .f32) (v : FVec Ideal S12x2048x64 .f32) (w : FVec Ideal S768x768 .f32) : FVec Ideal S1x2048x768 .f32 :=
  Host.dotGeneral dot_S1x2048x768_S768x768_S1x2048x768_2_0_01_1_n_n none (shapeCast _ (transpose S1x2048x12x64 [0, 2, 1, 3] (broadcastInDim S1x12x2048x64 ![1, 2, 3] bcast_S12x2048x64_S1x12x2048x64_1_2_3 (Host.dotGeneral dot_S12x2048x2048_S12x2048x64_S12x2048x64_2_1_1_2_0_0 none (shapeCast _ p shapeCasts_S1x12x2048x2048_S12x2048x2048) v)) transposes_S1x12x2048x64_S1x2048x12x64_0_2_1_3) shapeCasts_S1x2048x12x64_S1x2048x768) (transpose S768x768 [1, 0] w transposes_S768x768_S768x768_1_0)

theorem outV_apply (p : FVec Ideal S1x12x2048x2048 .f32) (v : FVec Ideal S12x2048x64 .f32) (w : FVec Ideal S768x768 .f32)
    (t : Fin 2048) (n : Fin 768) :
    outV p v w (ix3 0 t n)
      = (∑ q : Fin 768, (∑ s : Fin 2048, p (ix4 0 ⟨q.val / 64, by omega⟩ t s) * v (ix3 ⟨q.val / 64, by omega⟩ s ⟨q.val % 64, by omega⟩))
          * w (ix2 n q) : EReal) := by
  unfold outV
  pointwise

/-- The reference's result. -/
theorem ref_apply (x : Fin 2048 → Fin 768 → ℝ) (Wq Wk : Fin 768 → Fin 768 → ℝ) (Dq Dk : Fin 4 → Fin 64 → ℝ)
    (hx : ∀ t k, X (Proc.devRef .tc main_arg0) (ix3 0 t k) = ((x t k : ℝ) : EReal))
    (hq : ∀ p k, X (Proc.devRef .tc main_arg1) (ix2 p k) = ((Wq p k : ℝ) : EReal))
    (hk : ∀ p k, X (Proc.devRef .tc main_arg2) (ix2 p k) = ((Wk p k : ℝ) : EReal))
    (hdq : ∀ l d, X (Proc.devRef .tc main_arg5) (ix2 l d) = ((Dq l d : ℝ) : EReal))
    (hdk : ∀ l d, X (Proc.devRef .tc main_arg6) (ix2 l d) = ((Dk l d : ℝ) : EReal))
    (Wv Wo : FVec Ideal S768x768 .f32) (t : Fin 2048) (n : Fin 768) :
    outV (softV (res_main_v135 X)) (valV (X (Proc.devRef .tc main_arg0)) Wv) Wo (ix3 0 t n)
      = yy x Wq Wk Dq Dk (fun p k => Wv (ix2 p k)) (fun p k => Wo (ix2 p k)) t n := by
  have hp : ∀ (h : Fin 12) (s : Fin 2048), softV (res_main_v135 X) (ix4 0 h t s)
      = ((pp (wts x Wq Wk Dq Dk h t) t.val s : ℝ) : EReal) := by
    intro h s
    obtain ⟨M, hM⟩ := v135_apply X _ _ (v21_apply X x Wq Dq hx hq hdq) (v31_apply X x Wk Dk hx hk hdk) h t
    rw [softV_apply]
    simp only [hM]
    exact softmax_row (wts x Wq Wk Dq Dk h t) (fun s => wt_pos _ _) t.val M s
  have hv : ∀ (h : Fin 12) (s : Fin 2048) (d : Fin 64), valV (X (Proc.devRef .tc main_arg0)) Wv (ix3 h s d)
      = vv x (fun p k => Wv (ix2 p k)) h s d := by
    intro h s d
    rw [valV_apply]
    unfold vv
    exact Finset.sum_congr rfl fun k _ => congrArg (fun z : EReal => z * _) (hx s k)
  rw [outV_apply]
  unfold yy oo
  simp only [hp, hv]

end Cert.ReferenceIdeal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_args
public import proofs.«01_k».proof.Proof.Finite
public import proofs.«01_k».proof.Proof.KRun
public import proofs.«01_k».proof.Proof.KValue
public import proofs.«01_k».proof.Proof.RefSoft
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore to leave counted. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run m ρ)

open Cert.KernelIdeal.Val Cert.ReferenceIdeal.Val Cert.KernelIdeal.Gen Idealize.ShloMosaic.TcCoe in
/-- At real arguments the reference's result is the kernel's. -/
theorem results_eq (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    (X : Valuation Cert.ReferenceIdeal.τ Cert.ReferenceIdeal.sig (Elt Ideal))
    (hpre : Cert.Pre_KernelIdeal_finite_args m)
    (x : FVec Ideal Cert.KernelIdeal.S1x2048x768 .f32) (wq wk wv wo : FVec Ideal Cert.KernelIdeal.S768x768 .f32)
    (dq dk : FVec Ideal Cert.KernelIdeal.S4x64 .f32)
    (h0 : m ((c : Thread Cert.KernelIdeal.nD Cert.KernelIdeal.τ).loc Cert.KernelIdeal.main_arg0) = x)
    (h1 : m ((c : Thread Cert.KernelIdeal.nD Cert.KernelIdeal.τ).loc Cert.KernelIdeal.main_arg1) = wq)
    (h2 : m ((c : Thread Cert.KernelIdeal.nD Cert.KernelIdeal.τ).loc Cert.KernelIdeal.main_arg2) = wk)
    (h3 : m ((c : Thread Cert.KernelIdeal.nD Cert.KernelIdeal.τ).loc Cert.KernelIdeal.main_arg3) = wv)
    (h4 : m ((c : Thread Cert.KernelIdeal.nD Cert.KernelIdeal.τ).loc Cert.KernelIdeal.main_arg4) = wo)
    (h5 : m ((c : Thread Cert.KernelIdeal.nD Cert.KernelIdeal.τ).loc Cert.KernelIdeal.main_arg5) = dq)
    (h6 : m ((c : Thread Cert.KernelIdeal.nD Cert.KernelIdeal.τ).loc Cert.KernelIdeal.main_arg6) = dk)
    (r0 : X (Proc.devRef .tc Cert.ReferenceIdeal.main_arg0) = x) (r1 : X (Proc.devRef .tc Cert.ReferenceIdeal.main_arg1) = wq)
    (r2 : X (Proc.devRef .tc Cert.ReferenceIdeal.main_arg2) = wk) (r5 : X (Proc.devRef .tc Cert.ReferenceIdeal.main_arg5) = dq)
    (r6 : X (Proc.devRef .tc Cert.ReferenceIdeal.main_arg6) = dk) :
    (outV (softV (Cert.ReferenceIdeal.Value.res_main_v135 X)) (Cert.ReferenceIdeal.Val.valV x wv) wo
        : FVec Ideal Cert.KernelIdeal.S1x2048x768 .f32)
      = W7 m g c (Proc.devRef .tc Cert.KernelIdeal.main_v0) := by
  have hp := hpre c
  rw [h0, h1, h2, h3, h4, h5, h6] at hp
  obtain ⟨f0, f1, f2, f5, f6⟩ := Cert.Pre_finite_args.reals x wq wk wv wo dq dk hp
  rw [w7_y m g c x wq wk wv wo dq dk h0 h1 h2 h3 h4 h5 h6]
  funext j
  obtain ⟨z, t, n, rfl⟩ : ∃ (z : Fin 1) (t : Fin 2048) (n : Fin 768), j = ix3 z t n := ⟨j 0, j 1, j 2, by
    funext a; fin_cases a <;> rfl⟩
  obtain rfl : z = 0 := Subsingleton.elim _ _
  rw [host_y_apply, yV_real x (fun t k => (x (ix3 0 t k) : EReal).toReal) (fun t k => f0 _) wq wk wv wo dq dk
    (fun p k => (wq (ix2 p k) : EReal).toReal) (fun p k => (wk (ix2 p k) : EReal).toReal)
    (fun l e => (dq (ix2 l e) : EReal).toReal) (fun l e => (dk (ix2 l e) : EReal).toReal)
    (fun p k => f1 _) (fun p k => f2 _) (fun l e => f5 _) (fun l e => f6 _)]
  subst r0; subst r1; subst r2; subst r5; subst r6
  exact ref_apply X _ _ _ _ _ (fun t k => f0 _) (fun p k => f1 _) (fun p k => f2 _) (fun l e => f5 _) (fun l e => f6 _) wv wo t n

/-- The kernel and the reference give the same result. -/
theorem algebraic : Cert.algebraic_KernelIdeal_ReferenceIdeal_pre_finite_args := by
  intro m g m' g' hpre heq
  refine ⟨fun c => Cert.KernelIdeal.Gen.W7 m g c (Proc.devRef .tc Cert.KernelIdeal.main_v0),
    (θ_run _ _ _).mono (fun r h c => h c) (Cert.KernelIdeal.Val.run m g),
    (θ_run _ _ _).mono (fun r h c => ⟨(h c).1.trans ?_, (h c).2⟩) (Cert.ReferenceIdeal.Value.run m' g')⟩
  obtain ⟨e0, e1, e2, e3, e4, e5, e6⟩ := heq c
  refine Eq.trans ?_ (results_eq m g c (StableHlo.launchContents m' c) hpre _ _ _ _ _ _ _ rfl rfl rfl rfl rfl rfl rfl e0 e1 e2 e5 e6)
  rw [← e3, ← e4, ← e0]
  rfl

theorem claim : Cert.Claim :=
  ⟨Cert.Kernel.Gen.facts, Cert.KernelIdeal.Gen.facts, Cert.ReferenceIdeal.Gen.facts, Cert.Pre_finite_args.Gen.facts,
    fun m ρ _ => Cert.Kernel.Gen.frame m ρ, fun m ρ _ => Cert.KernelIdeal.Gen.frame m ρ,
    fun m ρ _ => Cert.KernelIdeal.Gen.frame m ρ,
    reference_frame, fun m ρ _ => reference_frame m ρ trivial,
    ⟨IdealRules.named_const.statement Cert.KernelIdeal.κ "scale" .f32 0x4238AA3B#32 _ rfl,
      IdealRules.named_const.statement Cert.KernelIdeal.κ "half" .f32 0x41B8AA3B#32 _ rfl⟩,
    algebraic⟩

end Cert.Proof

end
